-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Neighbours (m : (ℓ : Loc Cert.Neighbours.nD Cert.Neighbours.τ Cert.Neighbours.sig) → Buf (Elt Bits) ℓ) : Prop :=
  True

def Pre_NeighboursIdeal (m : (ℓ : Loc Cert.NeighboursIdeal.nD Cert.NeighboursIdeal.τ Cert.NeighboursIdeal.sig) → Buf (Elt Ideal) ℓ) : Prop :=
  True

def Pre_NeighboursIdeal_finite [hPre_finite : Cert.Pre_finite.Facts] (m : (ℓ : Loc Cert.NeighboursIdeal.nD Cert.NeighboursIdeal.τ Cert.NeighboursIdeal.sig) → Buf (Elt Ideal) ℓ) : Prop :=
  ∀ c : Dev Cert.NeighboursIdeal.nD,
    (Cert.Pre_finite.fn (F := Ideal) (m ((c.tc : Thread Cert.NeighboursIdeal.nD Cert.NeighboursIdeal.τ).loc Cert.NeighboursIdeal.main_arg0)) (m ((c.tc : Thread Cert.NeighboursIdeal.nD Cert.NeighboursIdeal.τ).loc Cert.NeighboursIdeal.main_arg1))) = (fun _ => 1#1)

def Pre_NeighboursReferenceIdeal (m : (ℓ : Loc Cert.NeighboursReferenceIdeal.nD Cert.NeighboursReferenceIdeal.τ Cert.NeighboursReferenceIdeal.sig) → Buf (Elt Ideal) ℓ) : Prop :=
  True

def Pre_NeighboursReferenceIdeal_finite [hPre_finite : Cert.Pre_finite.Facts] (m : (ℓ : Loc Cert.NeighboursReferenceIdeal.nD Cert.NeighboursReferenceIdeal.τ Cert.NeighboursReferenceIdeal.sig) → Buf (Elt Ideal) ℓ) : Prop :=
  ∀ c : Dev Cert.NeighboursReferenceIdeal.nD,
    (Cert.Pre_finite.fn (F := Ideal) (m ((c.tc : Thread Cert.NeighboursReferenceIdeal.nD Cert.NeighboursReferenceIdeal.τ).loc Cert.NeighboursReferenceIdeal.main_arg0)) (m ((c.tc : Thread Cert.NeighboursReferenceIdeal.nD Cert.NeighboursReferenceIdeal.τ).loc Cert.NeighboursReferenceIdeal.main_arg1))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Neighbours [hNeighbours : Cert.Neighbours.Facts] : Prop :=
  ∀ (m : (ℓ : Loc Cert.Neighbours.nD Cert.Neighbours.τ Cert.Neighbours.sig) → Buf (Elt Bits) ℓ) (g : Dev Cert.Neighbours.nD → PrngReg), Pre_Neighbours m →
    θ_run (Cert.Neighbours.defs (F := Bits)) (onTc (τ := Cert.Neighbours.τ) (Cert.Neighbours.main (F := Bits))) ⟨m, fun _ => 0, g⟩ (fun r => (∀ c : Dev Cert.Neighbours.nD,
      r.2.mem ((c.tc : Thread Cert.Neighbours.nD Cert.Neighbours.τ).loc Cert.Neighbours.main_arg0) = m ((c.tc : Thread Cert.Neighbours.nD Cert.Neighbours.τ).loc Cert.Neighbours.main_arg0)
      ∧ r.2.mem ((c.tc : Thread Cert.Neighbours.nD Cert.Neighbours.τ).loc Cert.Neighbours.main_arg1) = m ((c.tc : Thread Cert.Neighbours.nD Cert.Neighbours.τ).loc Cert.Neighbours.main_arg1))
      ∧ r.2.sem = fun _ => 0)

def quiescent_NeighboursIdeal [hNeighboursIdeal : Cert.NeighboursIdeal.Facts] : Prop :=
  ∀ (m : (ℓ : Loc Cert.NeighboursIdeal.nD Cert.NeighboursIdeal.τ Cert.NeighboursIdeal.sig) → Buf (Elt Ideal) ℓ) (g : Dev Cert.NeighboursIdeal.nD → PrngReg), Pre_NeighboursIdeal m →
    θ_run (Cert.NeighboursIdeal.defs (F := Ideal)) (onTc (τ := Cert.NeighboursIdeal.τ) (Cert.NeighboursIdeal.main (F := Ideal))) ⟨m, fun _ => 0, g⟩ (fun r => (∀ c : Dev Cert.NeighboursIdeal.nD,
      r.2.mem ((c.tc : Thread Cert.NeighboursIdeal.nD Cert.NeighboursIdeal.τ).loc Cert.NeighboursIdeal.main_arg0) = m ((c.tc : Thread Cert.NeighboursIdeal.nD Cert.NeighboursIdeal.τ).loc Cert.NeighboursIdeal.main_arg0)
      ∧ r.2.mem ((c.tc : Thread Cert.NeighboursIdeal.nD Cert.NeighboursIdeal.τ).loc Cert.NeighboursIdeal.main_arg1) = m ((c.tc : Thread Cert.NeighboursIdeal.nD Cert.NeighboursIdeal.τ).loc Cert.NeighboursIdeal.main_arg1))
      ∧ r.2.sem = fun _ => 0)

def quiescent_NeighboursIdeal_pre_finite [hNeighboursIdeal : Cert.NeighboursIdeal.Facts] [hPre_finite : Cert.Pre_finite.Facts] : Prop :=
  ∀ (m : (ℓ : Loc Cert.NeighboursIdeal.nD Cert.NeighboursIdeal.τ Cert.NeighboursIdeal.sig) → Buf (Elt Ideal) ℓ) (g : Dev Cert.NeighboursIdeal.nD → PrngReg), Pre_NeighboursIdeal_finite m →
    θ_run (Cert.NeighboursIdeal.defs (F := Ideal)) (onTc (τ := Cert.NeighboursIdeal.τ) (Cert.NeighboursIdeal.main (F := Ideal))) ⟨m, fun _ => 0, g⟩ (fun r => (∀ c : Dev Cert.NeighboursIdeal.nD,
      r.2.mem ((c.tc : Thread Cert.NeighboursIdeal.nD Cert.NeighboursIdeal.τ).loc Cert.NeighboursIdeal.main_arg0) = m ((c.tc : Thread Cert.NeighboursIdeal.nD Cert.NeighboursIdeal.τ).loc Cert.NeighboursIdeal.main_arg0)
      ∧ r.2.mem ((c.tc : Thread Cert.NeighboursIdeal.nD Cert.NeighboursIdeal.τ).loc Cert.NeighboursIdeal.main_arg1) = m ((c.tc : Thread Cert.NeighboursIdeal.nD Cert.NeighboursIdeal.τ).loc Cert.NeighboursIdeal.main_arg1))
      ∧ r.2.sem = fun _ => 0)

def quiescent_NeighboursReferenceIdeal [hNeighboursReferenceIdeal : Cert.NeighboursReferenceIdeal.Facts] : Prop :=
  ∀ (m : (ℓ : Loc Cert.NeighboursReferenceIdeal.nD Cert.NeighboursReferenceIdeal.τ Cert.NeighboursReferenceIdeal.sig) → Buf (Elt Ideal) ℓ) (g : Dev Cert.NeighboursReferenceIdeal.nD → PrngReg), Pre_NeighboursReferenceIdeal m →
    θ_run (Cert.NeighboursReferenceIdeal.defs (F := Ideal)) (onTc (τ := Cert.NeighboursReferenceIdeal.τ) (Cert.NeighboursReferenceIdeal.main (F := Ideal))) ⟨m, fun _ => 0, g⟩ (fun r => (∀ c : Dev Cert.NeighboursReferenceIdeal.nD,
      r.2.mem ((c.tc : Thread Cert.NeighboursReferenceIdeal.nD Cert.NeighboursReferenceIdeal.τ).loc Cert.NeighboursReferenceIdeal.main_arg0) = m ((c.tc : Thread Cert.NeighboursReferenceIdeal.nD Cert.NeighboursReferenceIdeal.τ).loc Cert.NeighboursReferenceIdeal.main_arg0)
      ∧ r.2.mem ((c.tc : Thread Cert.NeighboursReferenceIdeal.nD Cert.NeighboursReferenceIdeal.τ).loc Cert.NeighboursReferenceIdeal.main_arg1) = m ((c.tc : Thread Cert.NeighboursReferenceIdeal.nD Cert.NeighboursReferenceIdeal.τ).loc Cert.NeighboursReferenceIdeal.main_arg1))
      ∧ r.2.sem = fun _ => 0)

def quiescent_NeighboursReferenceIdeal_pre_finite [hNeighboursReferenceIdeal : Cert.NeighboursReferenceIdeal.Facts] [hPre_finite : Cert.Pre_finite.Facts] : Prop :=
  ∀ (m : (ℓ : Loc Cert.NeighboursReferenceIdeal.nD Cert.NeighboursReferenceIdeal.τ Cert.NeighboursReferenceIdeal.sig) → Buf (Elt Ideal) ℓ) (g : Dev Cert.NeighboursReferenceIdeal.nD → PrngReg), Pre_NeighboursReferenceIdeal_finite m →
    θ_run (Cert.NeighboursReferenceIdeal.defs (F := Ideal)) (onTc (τ := Cert.NeighboursReferenceIdeal.τ) (Cert.NeighboursReferenceIdeal.main (F := Ideal))) ⟨m, fun _ => 0, g⟩ (fun r => (∀ c : Dev Cert.NeighboursReferenceIdeal.nD,
      r.2.mem ((c.tc : Thread Cert.NeighboursReferenceIdeal.nD Cert.NeighboursReferenceIdeal.τ).loc Cert.NeighboursReferenceIdeal.main_arg0) = m ((c.tc : Thread Cert.NeighboursReferenceIdeal.nD Cert.NeighboursReferenceIdeal.τ).loc Cert.NeighboursReferenceIdeal.main_arg0)
      ∧ r.2.mem ((c.tc : Thread Cert.NeighboursReferenceIdeal.nD Cert.NeighboursReferenceIdeal.τ).loc Cert.NeighboursReferenceIdeal.main_arg1) = m ((c.tc : Thread Cert.NeighboursReferenceIdeal.nD Cert.NeighboursReferenceIdeal.τ).loc Cert.NeighboursReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Neighbours_NeighboursIdeal : Prop :=
  IdealRules.named_const.Statement Cert.NeighboursIdeal.κ "taken" .f32 0x7F61B1E6#32 ⊤

def algebraic_NeighboursIdeal_NeighboursReferenceIdeal_pre_finite [hNeighboursIdeal : Cert.NeighboursIdeal.Facts] [hNeighboursReferenceIdeal : Cert.NeighboursReferenceIdeal.Facts] [hPre_finite : Cert.Pre_finite.Facts] : Prop :=
  ∀ (m : (ℓ : Loc Cert.NeighboursIdeal.nD Cert.NeighboursIdeal.τ Cert.NeighboursIdeal.sig) → Buf (Elt Ideal) ℓ) (g : Dev Cert.NeighboursIdeal.nD → PrngReg)
    (m' : (ℓ : Loc Cert.NeighboursReferenceIdeal.nD Cert.NeighboursReferenceIdeal.τ Cert.NeighboursReferenceIdeal.sig) → Buf (Elt Ideal) ℓ) (g' : Dev Cert.NeighboursReferenceIdeal.nD → PrngReg), Pre_NeighboursIdeal_finite m →
    (∀ c : Dev Cert.NeighboursIdeal.nD,
      m' ((c.tc : Thread Cert.NeighboursReferenceIdeal.nD Cert.NeighboursReferenceIdeal.τ).loc Cert.NeighboursReferenceIdeal.main_arg0) = m ((c.tc : Thread Cert.NeighboursIdeal.nD Cert.NeighboursIdeal.τ).loc Cert.NeighboursIdeal.main_arg0)
      ∧ m' ((c.tc : Thread Cert.NeighboursReferenceIdeal.nD Cert.NeighboursReferenceIdeal.τ).loc Cert.NeighboursReferenceIdeal.main_arg1) = m ((c.tc : Thread Cert.NeighboursIdeal.nD Cert.NeighboursIdeal.τ).loc Cert.NeighboursIdeal.main_arg1)) →
    ∃ (v0 : (c : Dev Cert.NeighboursIdeal.nD) → Buf (Elt Ideal) ((c.tc : Thread Cert.NeighboursIdeal.nD Cert.NeighboursIdeal.τ).loc Cert.NeighboursIdeal.main_v8)),
      θ_run (Cert.NeighboursIdeal.defs (F := Ideal)) (onTc (τ := Cert.NeighboursIdeal.τ) (Cert.NeighboursIdeal.main (F := Ideal))) ⟨m, fun _ => 0, g⟩ (fun r => ∀ c : Dev Cert.NeighboursIdeal.nD,
          r.2.mem ((c.tc : Thread Cert.NeighboursIdeal.nD Cert.NeighboursIdeal.τ).loc Cert.NeighboursIdeal.main_v8) = v0 c
          ∧ r.2.mem ((c.tc : Thread Cert.NeighboursIdeal.nD Cert.NeighboursIdeal.τ).loc Cert.NeighboursIdeal.main_arg0) = m ((c.tc : Thread Cert.NeighboursIdeal.nD Cert.NeighboursIdeal.τ).loc Cert.NeighboursIdeal.main_arg0)
          ∧ r.2.mem ((c.tc : Thread Cert.NeighboursIdeal.nD Cert.NeighboursIdeal.τ).loc Cert.NeighboursIdeal.main_arg1) = m ((c.tc : Thread Cert.NeighboursIdeal.nD Cert.NeighboursIdeal.τ).loc Cert.NeighboursIdeal.main_arg1))
      ∧ θ_run (Cert.NeighboursReferenceIdeal.defs (F := Ideal)) (onTc (τ := Cert.NeighboursReferenceIdeal.τ) (Cert.NeighboursReferenceIdeal.main (F := Ideal))) ⟨m', fun _ => 0, g'⟩ (fun r => ∀ c : Dev Cert.NeighboursReferenceIdeal.nD,
          r.2.mem ((c.tc : Thread Cert.NeighboursReferenceIdeal.nD Cert.NeighboursReferenceIdeal.τ).loc Cert.NeighboursReferenceIdeal.main_v32) = v0 c
          ∧ r.2.mem ((c.tc : Thread Cert.NeighboursReferenceIdeal.nD Cert.NeighboursReferenceIdeal.τ).loc Cert.NeighboursReferenceIdeal.main_arg0) = m' ((c.tc : Thread Cert.NeighboursReferenceIdeal.nD Cert.NeighboursReferenceIdeal.τ).loc Cert.NeighboursReferenceIdeal.main_arg0)
          ∧ r.2.mem ((c.tc : Thread Cert.NeighboursReferenceIdeal.nD Cert.NeighboursReferenceIdeal.τ).loc Cert.NeighboursReferenceIdeal.main_arg1) = m' ((c.tc : Thread Cert.NeighboursReferenceIdeal.nD Cert.NeighboursReferenceIdeal.τ).loc Cert.NeighboursReferenceIdeal.main_arg1))

def Claim : Prop :=
  ∃ (hKernel : Cert.Kernel.Facts) (hKernelIdeal : Cert.KernelIdeal.Facts) (hReferenceIdeal : Cert.ReferenceIdeal.Facts) (hNeighbours : Cert.Neighbours.Facts) (hNeighboursIdeal : Cert.NeighboursIdeal.Facts) (hNeighboursReferenceIdeal : Cert.NeighboursReferenceIdeal.Facts) (hPre_pre : Cert.Pre_pre.Facts) (hPre_finite : Cert.Pre_finite.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Neighbours (hNeighbours := hNeighbours)
    ∧ quiescent_NeighboursIdeal (hNeighboursIdeal := hNeighboursIdeal)
    ∧ quiescent_NeighboursIdeal_pre_finite (hNeighboursIdeal := hNeighboursIdeal) (hPre_finite := hPre_finite)
    ∧ quiescent_NeighboursReferenceIdeal (hNeighboursReferenceIdeal := hNeighboursReferenceIdeal)
    ∧ quiescent_NeighboursReferenceIdeal_pre_finite (hNeighboursReferenceIdeal := hNeighboursReferenceIdeal) (hPre_finite := hPre_finite)
    ∧ preserves_Kernel_KernelIdeal
    ∧ algebraic_KernelIdeal_ReferenceIdeal (hKernelIdeal := hKernelIdeal) (hReferenceIdeal := hReferenceIdeal) (hPre_pre := hPre_pre)
    ∧ preserves_Neighbours_NeighboursIdeal
    ∧ algebraic_NeighboursIdeal_NeighboursReferenceIdeal_pre_finite (hNeighboursIdeal := hNeighboursIdeal) (hNeighboursReferenceIdeal := hNeighboursReferenceIdeal) (hPre_finite := hPre_finite)
-- ==== Pre_finite.lean ====
abbrev S4x1024x4x3 : Shape := ⟨4, ![4, 1024, 4, 3]⟩
abbrev S4x1024 : Shape := ⟨2, ![4, 1024]⟩
abbrev S_ : Shape := ⟨0, ![]⟩

class Facts : Prop where
  bcast_S_S4x1024x4x3 : S_.BroadcastsInDim S4x1024x4x3 (![] : Fin 0 → Fin S4x1024x4x3.rank)
  reducesTo_S4x1024x4x3_S_d0_1_2_3 : S4x1024x4x3.ReducesTo [0, 1, 2, 3] S_
  h_S_ : 0 < S_.numel
  bcast_S_S4x1024 : S_.BroadcastsInDim S4x1024 (![] : Fin 0 → Fin S4x1024.rank)
  reducesTo_S4x1024_S_d0_1 : S4x1024.ReducesTo [0, 1] S_

variable [Facts]

def fn {F : FTy → Type} [FloatOps F] (main_arg0 : FVec F S4x1024x4x3 .f32) (main_arg1 : FVec F S4x1024 .f32) : IVec S_ 1 :=
  let main_v0 : FVec F S4x1024x4x3 .f32 := Host.absf main_arg0
  let main_cst : FVec F S_ .f32 := constant S_ .f32 0x7F800000#32
  let main_v1 : FVec F S4x1024x4x3 .f32 := broadcastInDim S4x1024x4x3 ![] bcast_S_S4x1024x4x3 main_cst
  let main_v2 : IVec S4x1024x4x3 1 := cmpf .olt main_v0 main_v1
  let main_c : IVec S_ 1 := constantI S_ 1 1#1
  let main_v3 : IVec S_ 1 := (fun x v => Host.reduce IntOp.andi x v reducesTo_S4x1024x4x3_S_d0_1_2_3 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  main_v8
-- ==== Pre_pre.lean ====
abbrev S4x1024x4x3 : Shape := ⟨4, ![4, 1024, 4, 3]⟩
abbrev S4x1024 : Shape := ⟨2, ![4, 1024]⟩
abbrev S4096x48 : Shape := ⟨2, ![4096, 48]⟩
abbrev S16x66 : Shape := ⟨2, ![16, 66]⟩
abbrev S16 : Shape := ⟨1, ![16]⟩
abbrev S128x416 : Shape := ⟨2, ![128, 416]⟩
abbrev S128 : Shape := ⟨1, ![128]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S4096x48 : S_.BroadcastsInDim S4096x48 (![] : Fin 0 → Fin S4096x48.rank)
  reducesTo_S4096x48_S_d0_1 : S4096x48.ReducesTo [0, 1] S_

variable [Facts]

def fn {F : FTy → Type} [FloatOps F] (main_arg0 : FVec F S4x1024x4x3 .f32) (main_arg1 : IVec S4x1024 32) (main_arg2 : IVec S4096x48 32) (main_arg3 : FVec F S16x66 .f32) (main_arg4 : FVec F S16 .f32) (main_arg5 : FVec F S128x416 .f32) (main_arg6 : FVec F S128 .f32) (main_arg7 : FVec F S128 .f32) : IVec S_ 1 :=
  let main_c : IVec S_ 32 := constantI S_ 32 0#32
  let main_v0 : IVec S4x1024 32 := broadcastInDim S4x1024 ![] bcast_S_S4x1024 main_c
  let main_v1 : IVec S4x1024 1 := cmpi .sge main_arg1 main_v0
  let main_c_0 : IVec S_ 1 := constantI S_ 1 1#1
  let main_v2 : IVec S_ 1 := (fun x v => Host.reduce IntOp.andi x v reducesTo_S4x1024_S_d0_1 h_S_) main_v1 main_c_0
  let main_c_1 : IVec S_ 32 := constantI S_ 32 4096#32
  let main_v3 : IVec S4x1024 32 := broadcastInDim S4x1024 ![] bcast_S_S4x1024 main_c_1
  let main_v4 : IVec S4x1024 1 := cmpi .slt main_arg1 main_v3
  let main_c_2 : IVec S_ 1 := constantI S_ 1 1#1
  let main_v5 : IVec S_ 1 := (fun x v => Host.reduce IntOp.andi x v reducesTo_S4x1024_S_d0_1 h_S_) main_v4 main_c_2
  let main_v6 : IVec S_ 1 := andi main_v2 main_v5
  let main_c_3 : IVec S_ 32 := constantI S_ 32 0#32
  let main_v7 : IVec S4096x48 32 := broadcastInDim S4096x48 ![] bcast_S_S4096x48 main_c_3
  let main_v8 : IVec S4096x48 1 := cmpi .sge main_arg2 main_v7
  let main_c_4 : IVec S_ 1 := constantI S_ 1 1#1
  let main_v9 : IVec S_ 1 := (fun x v => Host.reduce IntOp.andi x v reducesTo_S4096x48_S_d0_1 h_S_) main_v8 main_c_4
  let main_v10 : IVec S_ 1 := andi main_v6 main_v9
  let main_c_5 : IVec S_ 32 := constantI S_ 32 4096#32
  let main_v11 : IVec S4096x48 32 := broadcastInDim S4096x48 ![] bcast_S_S4096x48 main_c_5
  let main_v12 : IVec S4096x48 1 := cmpi .slt main_arg2 main_v11
  let main_c_6 : IVec S_ 1 := constantI S_ 1 1#1
  let main_v13 : IVec S_ 1 := (fun x v => Host.reduce IntOp.andi x v reducesTo_S4096x48_S_d0_1 h_S_) main_v12 main_c_6
  let main_v14 : IVec S_ 1 := andi main_v10 main_v13
  main_v14
-- ==== Kernel.lean ====
abbrev S4x1024x4x3 : Shape := ⟨4, ![4, 1024, 4, 3]⟩
abbrev S4x1024 : Shape := ⟨2, ![4, 1024]⟩
abbrev S4096x48 : Shape := ⟨2, ![4096, 48]⟩
abbrev S16x66 : Shape := ⟨2, ![16, 66]⟩
abbrev S16 : Shape := ⟨1, ![16]⟩
abbrev S128x416 : Shape := ⟨2, ![128, 416]⟩
abbrev S128 : Shape := ⟨1, ![128]⟩
abbrev S16x75 : Shape := ⟨2, ![16, 75]⟩
abbrev S75x25 : Shape := ⟨2, ![75, 25]⟩
abbrev S25x400 : Shape := ⟨2, ![25, 400]⟩
abbrev S4096x12 : Shape := ⟨2, ![4096, 12]⟩
abbrev S4096x1 : Shape := ⟨2, ![4096, 1]⟩
abbrev S4096x16 : Shape := ⟨2, ![4096, 16]⟩
abbrev S196608 : Shape := ⟨1, ![196608]⟩
abbrev S196608x16 : Shape := ⟨2, ![196608, 16]⟩
abbrev S6144 : Shape := ⟨1, ![6144]⟩
abbrev S6144x16 : Shape := ⟨2, ![6144, 16]⟩
abbrev S_ : Shape := ⟨0, ![]⟩
abbrev S66x16 : Shape := ⟨2, ![66, 16]⟩
abbrev S1x16 : Shape := ⟨2, ![1, 16]⟩
abbrev S15 : Shape := ⟨1, ![15]⟩
abbrev S1 : Shape := ⟨1, ![1]⟩
abbrev S25x16 : Shape := ⟨2, ![25, 16]⟩
abbrev S400 : Shape := ⟨1, ![400]⟩
abbrev S1x400 : Shape := ⟨2, ![1, 400]⟩
abbrev S416x128 : Shape := ⟨2, ![416, 128]⟩
abbrev S1x128 : Shape := ⟨2, ![1, 128]⟩
abbrev S196608x128 : Shape := ⟨2, ![196608, 128]⟩
abbrev S768x16 : Shape := ⟨2, ![768, 16]⟩
abbrev S16x16 : Shape := ⟨2, ![16, 16]⟩
abbrev S768x128 : Shape := ⟨2, ![768, 128]⟩
abbrev S768x1 : Shape := ⟨2, ![768, 1]⟩
abbrev S768x66 : Shape := ⟨2, ![768, 66]⟩
abbrev S768x75 : Shape := ⟨2, ![768, 75]⟩
abbrev S768x25 : Shape := ⟨2, ![768, 25]⟩
abbrev S768x400 : Shape := ⟨2, ![768, 400]⟩
abbrev S768x416 : Shape := ⟨2, ![768, 416]⟩
abbrev S768 : Shape := ⟨1, ![768]⟩
abbrev S4x1024x48x128 : Shape := ⟨4, ![4, 1024, 48, 128]⟩

abbrev nBuf : Table → Nat
  | .hbm => 52
  | .local .tc .vmem => 19
  | .local .scVector .vmem => 2
  | _ => 0

abbrev bufTy : (tb : Table) → Fin (nBuf tb) → BufTy
  | .hbm, ⟨0, _⟩ => ⟨S4x1024x4x3, .f32⟩
  | .hbm, ⟨1, _⟩ => ⟨S4x1024, .i32⟩
  | .hbm, ⟨2, _⟩ => ⟨S4096x48, .i32⟩
  | .hbm, ⟨3, _⟩ => ⟨S16x66, .f32⟩
  | .hbm, ⟨4, _⟩ => ⟨S16, .f32⟩
  | .hbm, ⟨5, _⟩ => ⟨S128x416, .f32⟩
  | .hbm, ⟨6, _⟩ => ⟨S128, .f32⟩
  | .hbm, ⟨7, _⟩ => ⟨S128, .f32⟩
  | .hbm, ⟨8, _⟩ => ⟨S16x75, .f32⟩
  | .hbm, ⟨9, _⟩ => ⟨S16x75, .f32⟩
  | .hbm, ⟨10, _⟩ => ⟨S75x25, .f32⟩
  | .hbm, ⟨11, _⟩ => ⟨S25x400, .f32⟩
  | .hbm, ⟨12, _⟩ => ⟨S4096x12, .f32⟩
  | .hbm, ⟨13, _⟩ => ⟨S4x1024, .f32⟩
  | .hbm, ⟨14, _⟩ => ⟨S4096x1, .f32⟩
  | .hbm, ⟨15, _⟩ => ⟨S4096x16, .f32⟩
  | .hbm, ⟨16, _⟩ => ⟨S196608, .i32⟩
  | .hbm, ⟨17, _⟩ => ⟨S196608x16, .f32⟩
  | .hbm, ⟨18, _⟩ => ⟨S66x16, .f32⟩
  | .hbm, ⟨19, _⟩ => ⟨S1x16, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S15, .f32⟩
  | .hbm, ⟨28, _⟩ => ⟨S_, .f32⟩
  | .hbm, ⟨29, _⟩ => ⟨S15, .f32⟩
  | .hbm, ⟨30, _⟩ => ⟨S15, .f32⟩
  | .hbm, ⟨31, _⟩ => ⟨S1, .f32⟩
  | .hbm, ⟨32, _⟩ => ⟨S_, .f32⟩
  | .hbm, ⟨33, _⟩ => ⟨S15, .f32⟩
  | .hbm, ⟨34, _⟩ => ⟨S15, .f32⟩
  | .hbm, ⟨35, _⟩ => ⟨S15, .f32⟩
  | .hbm, ⟨36, _⟩ => ⟨S15, .f32⟩
  | .hbm, ⟨37, _⟩ => ⟨S1, .f32⟩
  | .hbm, ⟨38, _⟩ => ⟨S15, .f32⟩
  | .hbm, ⟨39, _⟩ => ⟨S15, .f32⟩
  | .hbm, ⟨40, _⟩ => ⟨S15, .f32⟩
  | .hbm, ⟨41, _⟩ => ⟨S1, .f32⟩
  | .hbm, ⟨42, _⟩ => ⟨S16, .f32⟩
  | .hbm, ⟨43, _⟩ => ⟨S1x16, .f32⟩
  | .hbm, ⟨44, _⟩ => ⟨S25x16, .f32⟩
  | .hbm, ⟨45, _⟩ => ⟨S400, .f32⟩
  | .hbm, ⟨46, _⟩ => ⟨S1x400, .f32⟩
  | .hbm, ⟨47, _⟩ => ⟨S416x128, .f32⟩
  | .hbm, ⟨48, _⟩ => ⟨S1x128, .f32⟩
  | .hbm, ⟨49, _⟩ => ⟨S1x128, .f32⟩
  | .hbm, ⟨50, _⟩ => ⟨S196608x128, .f32⟩
  | .hbm, ⟨51, _⟩ => ⟨S4x1024x48x128, .f32⟩
  | .local .tc .vmem, ⟨0, _⟩ => ⟨S4096x12, .f32⟩
  | .local .tc .vmem, ⟨1, _⟩ => ⟨S4096x1, .f32⟩
  | .local .tc .vmem, ⟨2, _⟩ => ⟨S4096x16, .f32⟩
  | .local .tc .vmem, ⟨3, _⟩ => ⟨S768x16, .f32⟩
  | .local .tc .vmem, ⟨4, _⟩ => ⟨S768x16, .f32⟩
  | .local .tc .vmem, ⟨5, _⟩ => ⟨S16x16, .f32⟩
  | .local .tc .vmem, ⟨6, _⟩ => ⟨S16x16, .f32⟩
  | .local .tc .vmem, ⟨7, _⟩ => ⟨S66x16, .f32⟩
  | .local .tc .vmem, ⟨8, _⟩ => ⟨S1x16, .f32⟩
  | .local .tc .vmem, ⟨9, _⟩ => ⟨S16x75, .f32⟩
  | .local .tc .vmem, ⟨10, _⟩ => ⟨S16x75, .f32⟩
  | .local .tc .vmem, ⟨11, _⟩ => ⟨S75x25, .f32⟩
  | .local .tc .vmem, ⟨12, _⟩ => ⟨S25x400, .f32⟩
  | .local .tc .vmem, ⟨13, _⟩ => ⟨S1x400, .f32⟩
  | .local .tc .vmem, ⟨14, _⟩ => ⟨S416x128, .f32⟩
  | .local .tc .vmem, ⟨15, _⟩ => ⟨S1x128, .f32⟩
  | .local .tc .vmem, ⟨16, _⟩ => ⟨S1x128, .f32⟩
  | .local .tc .vmem, ⟨17, _⟩ => ⟨S768x128, .f32⟩
  | .local .tc .vmem, ⟨18, _⟩ => ⟨S768x128, .f32⟩
  | .local .scVector .vmem, ⟨0, _⟩ => ⟨S6144, .i32⟩
  | .local .scVector .vmem, ⟨1, _⟩ => ⟨S6144x16, .f32⟩
  | _, _ => ⟨S4x1024x4x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_cst_2 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_cst : Ref sig .tc := ⟨.hbm, 25, rfl⟩
abbrev main_call0_v3 : Ref sig .tc := ⟨.hbm, 26, rfl⟩
abbrev main_call0_v4 : Ref sig .tc := ⟨.hbm, 27, rfl⟩
abbrev main_call0_cst_0 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v3_scv : Ref sig .scVector := ⟨.hbm, 15, rfl⟩
abbrev main_v4_scv : Ref sig .scVector := ⟨.hbm, 16, rfl⟩
abbrev main_v5_scv : Ref sig .scVector := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc2_stg0_0 : Ref sig .tc := ⟨.vmem, 3, rfl⟩
abbrev cc2_stg0_1 : Ref sig .tc := ⟨.vmem, 4, rfl⟩
abbrev cc2_stg1_0 : Ref sig .tc := ⟨.vmem, 5, rfl⟩
abbrev cc2_stg1_1 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg4_0 : Ref sig .tc := ⟨.vmem, 9, rfl⟩
abbrev cc2_stg5_0 : Ref sig .tc := ⟨.vmem, 10, rfl⟩
abbrev cc2_stg6_0 : Ref sig .tc := ⟨.vmem, 11, rfl⟩
abbrev cc2_stg7_0 : Ref sig .tc := ⟨.vmem, 12, rfl⟩
abbrev cc2_stg8_0 : Ref sig .tc := ⟨.vmem, 13, rfl⟩
abbrev cc2_stg9_0 : Ref sig .tc := ⟨.vmem, 14, rfl⟩
abbrev cc2_stg10_0 : Ref sig .tc := ⟨.vmem, 15, rfl⟩
abbrev cc2_stg11_0 : Ref sig .tc := ⟨.vmem, 16, rfl⟩
abbrev cc2_stg12_0 : Ref sig .tc := ⟨.vmem, 17, rfl⟩
abbrev cc2_stg12_1 : Ref sig .tc := ⟨.vmem, 18, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc2_sem0_0 : DmaSem sig := 6
abbrev cc2_sem0_1 : DmaSem sig := 7
abbrev cc2_sem1_0 : DmaSem sig := 8
abbrev cc2_sem1_1 : DmaSem sig := 9
abbrev cc2_sem2_0 : DmaSem sig := 10
abbrev cc2_sem3_0 : DmaSem sig := 11
abbrev cc2_sem4_0 : DmaSem sig := 12
abbrev cc2_sem5_0 : DmaSem sig := 13
abbrev cc2_sem6_0 : DmaSem sig := 14
abbrev cc2_sem7_0 : DmaSem sig := 15
abbrev cc2_sem8_0 : DmaSem sig := 16
abbrev cc2_sem9_0 : DmaSem sig := 17
abbrev cc2_sem10_0 : DmaSem sig := 18
abbrev cc2_sem11_0 : DmaSem sig := 19
abbrev cc2_sem12_0 : DmaSem sig := 20
abbrev cc2_sem12_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S4096x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  let c0_i32_3_r1 : BitVec 32 := 0#32
  ![v2.toNat, 0]
abbrev grid2 : Pipeline.Grid := ⟨2, ![4, 64], ![false, false]⟩

def cc2_transform_0 (i : grid2.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S768x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S16x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S66x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S16x75 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S16x75 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S75x25 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S25x400 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x400 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S416x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 2 → Memref sig .tc .vmem S768x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1024x4x3 : Shape := ⟨4, ![4, 1024, 4, 3]⟩
abbrev S4x1024 : Shape := ⟨2, ![4, 1024]⟩
abbrev S4096x48 : Shape := ⟨2, ![4096, 48]⟩
abbrev S16x66 : Shape := ⟨2, ![16, 66]⟩
abbrev S16 : Shape := ⟨1, ![16]⟩
abbrev S128x416 : Shape := ⟨2, ![128, 416]⟩
abbrev S128 : Shape := ⟨1, ![128]⟩
abbrev S25 : Shape := ⟨1, ![25]⟩
abbrev S4x1024x1x3 : Shape := ⟨4, ![4, 1024, 1, 3]⟩
abbrev S4x1024x3 : Shape := ⟨3, ![4, 1024, 3]⟩
abbrev S4x1024x1 : Shape := ⟨3, ![4, 1024, 1]⟩
abbrev S_ : Shape := ⟨0, ![]⟩
abbrev S4x1024x5x3 : Shape := ⟨4, ![4, 1024, 5, 3]⟩
abbrev S4096x5x3 : Shape := ⟨3, ![4096, 5, 3]⟩
abbrev S25x1 : Shape := ⟨2, ![25, 1]⟩
abbrev S4096x25x3 : Shape := ⟨3, ![4096, 25, 3]⟩
abbrev S4096x48x1 : Shape := ⟨3, ![4096, 48, 1]⟩
abbrev S4096x48x25x3 : Shape := ⟨4, ![4096, 48, 25, 3]⟩
abbrev S4096x1x25x3 : Shape := ⟨4, ![4096, 1, 25, 3]⟩
abbrev S4096x48x25 : Shape := ⟨3, ![4096, 48, 25]⟩
abbrev S15 : Shape := ⟨1, ![15]⟩
abbrev S1 : Shape := ⟨1, ![1]⟩
abbrev S4096x48x25x1 : Shape := ⟨4, ![4096, 48, 25, 1]⟩
abbrev S1x1x1x16 : Shape := ⟨4, ![1, 1, 1, 16]⟩
abbrev S4096x48x25x16 : Shape := ⟨4, ![4096, 48, 25, 16]⟩
abbrev S4096x48x400 : Shape := ⟨3, ![4096, 48, 400]⟩
abbrev S4096 : Shape := ⟨1, ![4096]⟩
abbrev S4096x1 : Shape := ⟨2, ![4096, 1]⟩
abbrev S1x1x66 : Shape := ⟨3, ![1, 1, 66]⟩
abbrev S4096x48x66 : Shape := ⟨3, ![4096, 48, 66]⟩
abbrev S66x16 : Shape := ⟨2, ![66, 16]⟩
abbrev S4096x48x16 : Shape := ⟨3, ![4096, 48, 16]⟩
abbrev S1x1x16 : Shape := ⟨3, ![1, 1, 16]⟩
abbrev S4096x48x416 : Shape := ⟨3, ![4096, 48, 416]⟩
abbrev S416x128 : Shape := ⟨2, ![416, 128]⟩
abbrev S4096x48x128 : Shape := ⟨3, ![4096, 48, 128]⟩
abbrev S1x1x128 : Shape := ⟨3, ![1, 1, 128]⟩
abbrev S4x1024x48x128 : Shape := ⟨4, ![4, 1024, 48, 128]⟩

abbrev nBuf : Space → Nat
  | .hbm => 201
  | .vmem => 0
  | .smem => 0
  | _ => 0

abbrev hbmTy0_0 (i : Nat) : BufTy := match i % 128 with
  | 0 => ⟨S4x1024x4x3, .f32⟩
  | 1 => ⟨S4x1024, .i32⟩
  | 2 => ⟨S4096x48, .i32⟩
  | 3 => ⟨S16x66, .f32⟩
  | 4 => ⟨S16, .f32⟩
  | 5 => ⟨S128x416, .f32⟩
  | 6 => ⟨S128, .f32⟩
  | 7 => ⟨S128, .f32⟩
  | 8 => ⟨S25, .i32⟩
  | 9 => ⟨S25, .i32⟩
  | 10 => ⟨S4x1024x1x3, .f32⟩
  | 11 => ⟨S4x1024x3, .f32⟩
  | 12 => ⟨S4x1024x1x3, .f32⟩
  | 13 => ⟨S4x1024x3, .f32⟩
  | 14 => ⟨S4x1024x3, .f32⟩
  | 15 => ⟨S4x1024x1x3, .f32⟩
  | 16 => ⟨S4x1024x3, .f32⟩
  | 17 => ⟨S4x1024x1x3, .f32⟩
  | 18 => ⟨S4x1024x3, .f32⟩
  | 19 => ⟨S4x1024x3, .f32⟩
  | 20 => ⟨S4x1024x1, .f32⟩
  | 21 => ⟨S4x1024, .f32⟩
  | 22 => ⟨S4x1024x1, .f32⟩
  | 23 => ⟨S4x1024, .f32⟩
  | 24 => ⟨S4x1024, .f32⟩
  | 25 => ⟨S4x1024x1, .f32⟩
  | 26 => ⟨S4x1024, .f32⟩
  | 27 => ⟨S4x1024x1, .f32⟩
  | 28 => ⟨S4x1024, .f32⟩
  | 29 => ⟨S4x1024, .f32⟩
  | 30 => ⟨S4x1024, .f32⟩
  | 31 => ⟨S4x1024x1, .f32⟩
  | 32 => ⟨S4x1024, .f32⟩
  | 33 => ⟨S4x1024x1, .f32⟩
  | 34 => ⟨S4x1024, .f32⟩
  | 35 => ⟨S4x1024, .f32⟩
  | 36 => ⟨S4x1024x1, .f32⟩
  | 37 => ⟨S4x1024, .f32⟩
  | 38 => ⟨S4x1024x1, .f32⟩
  | 39 => ⟨S4x1024, .f32⟩
  | 40 => ⟨S4x1024, .f32⟩
  | 41 => ⟨S4x1024, .f32⟩
  | 42 => ⟨S4x1024x1, .f32⟩
  | 43 => ⟨S4x1024, .f32⟩
  | 44 => ⟨S4x1024x1, .f32⟩
  | 45 => ⟨S4x1024, .f32⟩
  | 46 => ⟨S4x1024, .f32⟩
  | 47 => ⟨S4x1024x1, .f32⟩
  | 48 => ⟨S4x1024, .f32⟩
  | 49 => ⟨S4x1024x1, .f32⟩
  | 50 => ⟨S4x1024, .f32⟩
  | 51 => ⟨S4x1024, .f32⟩
  | 52 => ⟨S4x1024, .f32⟩
  | 53 => ⟨S4x1024x1, .f32⟩
  | 54 => ⟨S4x1024x1, .f32⟩
  | 55 => ⟨S4x1024x1, .f32⟩
  | 56 => ⟨S4x1024x3, .f32⟩
  | 57 => ⟨S_, .f32⟩
  | 58 => ⟨S4x1024x3, .f32⟩
  | 59 => ⟨S4x1024x3, .f32⟩
  | 60 => ⟨S_, .f32⟩
  | 61 => ⟨S4x1024x3, .f32⟩
  | 62 => ⟨S4x1024x3, .f32⟩
  | 63 => ⟨S4x1024x3, .f32⟩
  | 64 => ⟨S_, .f32⟩
  | 65 => ⟨S4x1024x3, .f32⟩
  | 66 => ⟨S4x1024x3, .f32⟩
  | 67 => ⟨S4x1024x3, .f32⟩
  | 68 => ⟨S4x1024x1x3, .f32⟩
  | 69 => ⟨S4x1024x3, .f32⟩
  | 70 => ⟨S4x1024x3, .f32⟩
  | 71 => ⟨S4x1024x1x3, .f32⟩
  | 72 => ⟨S4x1024x5x3, .f32⟩
  | 73 => ⟨S4096x5x3, .f32⟩
  | 74 => ⟨S25x1, .i32⟩
  | 75 => ⟨S4096x25x3, .f32⟩
  | 76 => ⟨S25x1, .i32⟩
  | 77 => ⟨S4096x25x3, .f32⟩
  | 78 => ⟨S4096x48x1, .i32⟩
  | 79 => ⟨S4096x48x25x3, .f32⟩
  | 80 => ⟨S4096x1x25x3, .f32⟩
  | 81 => ⟨S4096x48x25x3, .f32⟩
  | 82 => ⟨S4096x48x25x3, .f32⟩
  | 83 => ⟨S4096x48x25x3, .f32⟩
  | 84 => ⟨S_, .f32⟩
  | 85 => ⟨S4096x48x25, .f32⟩
  | 86 => ⟨S_, .f32⟩
  | 87 => ⟨S4096x48x25, .f32⟩
  | 88 => ⟨S4096x48x25, .f32⟩
  | 89 => ⟨S4096x48x25, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S15, .f32⟩
  | 98 => ⟨S_, .f32⟩
  | 99 => ⟨S15, .f32⟩
  | 100 => ⟨S15, .f32⟩
  | 101 => ⟨S1, .f32⟩
  | 102 => ⟨S_, .f32⟩
  | 103 => ⟨S15, .f32⟩
  | 104 => ⟨S15, .f32⟩
  | 105 => ⟨S15, .f32⟩
  | 106 => ⟨S15, .f32⟩
  | 107 => ⟨S1, .f32⟩
  | 108 => ⟨S15, .f32⟩
  | 109 => ⟨S15, .f32⟩
  | 110 => ⟨S15, .f32⟩
  | 111 => ⟨S1, .f32⟩
  | 112 => ⟨S16, .f32⟩
  | 113 => ⟨S4096x48x25x1, .f32⟩
  | 114 => ⟨S1x1x1x16, .f32⟩
  | 115 => ⟨S4096x48x25x16, .f32⟩
  | 116 => ⟨S4096x48x25x16, .f32⟩
  | 117 => ⟨S4096x48x25x16, .f32⟩
  | 118 => ⟨S_, .f32⟩
  | 119 => ⟨S4096x48x25x16, .f32⟩
  | 120 => ⟨S4096x48x25x16, .f32⟩
  | 121 => ⟨S4096x48x25x16, .f32⟩
  | 122 => ⟨S4096x48x25x16, .f32⟩
  | 123 => ⟨S4096x48x25x16, .f32⟩
  | 124 => ⟨S4096x48x400, .f32⟩
  | 125 => ⟨S4096, .i32⟩
  | 126 => ⟨S4096x1, .i32⟩
  | 127 => ⟨S4096x48x1, .i32⟩
  | _ => ⟨S4x1024x4x3, .f32⟩

abbrev hbmTy0_1 (i : Nat) : BufTy := match i % 128 with
  | 0 => ⟨S4096x48, .i32⟩
  | 1 => ⟨S4096x48, .i32⟩
  | 2 => ⟨S4096x48, .i32⟩
  | 3 => ⟨S_, .i32⟩
  | 4 => ⟨S4096x48, .i32⟩
  | 5 => ⟨S4096x48, .i32⟩
  | 6 => ⟨S_, .i32⟩
  | 7 => ⟨S_, .i32⟩
  | 8 => ⟨S_, .i32⟩
  | 9 => ⟨S4096x48, .i32⟩
  | 10 => ⟨S4096x48, .i32⟩
  | 11 => ⟨S_, .i32⟩
  | 12 => ⟨S4096x48, .i32⟩
  | 13 => ⟨S4096x48, .i32⟩
  | 14 => ⟨S4096x48x1, .i32⟩
  | 15 => ⟨S1x1x66, .i32⟩
  | 16 => ⟨S4096x48x66, .i32⟩
  | 17 => ⟨S4096x48x66, .i32⟩
  | 18 => ⟨S4096x48x66, .i1⟩
  | 19 => ⟨S4096x48x66, .f32⟩
  | 20 => ⟨S66x16, .f32⟩
  | 21 => ⟨S4096x48x16, .f32⟩
  | 22 => ⟨S1x1x16, .f32⟩
  | 23 => ⟨S4096x48x16, .f32⟩
  | 24 => ⟨S4096x48x16, .f32⟩
  | 25 => ⟨S4096x48x416, .f32⟩
  | 26 => ⟨S416x128, .f32⟩
  | 27 => ⟨S4096x48x128, .f32⟩
  | 28 => ⟨S_, .f32⟩
  | 29 => ⟨S4096x48, .f32⟩
  | 30 => ⟨S4096x48x1, .f32⟩
  | 31 => ⟨S_, .f32⟩
  | 32 => ⟨S4096x48x1, .f32⟩
  | 33 => ⟨S4096x48x1, .f32⟩
  | 34 => ⟨S_, .i32⟩
  | 35 => ⟨S_, .f32⟩
  | 36 => ⟨S4096x48, .f32⟩
  | 37 => ⟨S4096x48x1, .f32⟩
  | 38 => ⟨S_, .f32⟩
  | 39 => ⟨S4096x48x1, .f32⟩
  | 40 => ⟨S4096x48x1, .f32⟩
  | 41 => ⟨S4096x48x128, .f32⟩
  | 42 => ⟨S4096x48x128, .f32⟩
  | 43 => ⟨S4096x48x128, .f32⟩
  | 44 => ⟨S_, .f32⟩
  | 45 => ⟨S_, .f32⟩
  | 46 => ⟨S_, .f32⟩
  | 47 => ⟨S_, .f32⟩
  | 48 => ⟨S4096x48, .f32⟩
  | 49 => ⟨S4096x48x1, .f32⟩
  | 50 => ⟨S4096x48x1, .f32⟩
  | 51 => ⟨S4096x48x1, .f32⟩
  | 52 => ⟨S_, .f32⟩
  | 53 => ⟨S_, .i1⟩
  | 54 => ⟨S_, .f32⟩
  | 55 => ⟨S_, .f32⟩
  | 56 => ⟨S4096x48x1, .f32⟩
  | 57 => ⟨S4096x48x1, .f32⟩
  | 58 => ⟨S4096x48x128, .f32⟩
  | 59 => ⟨S4096x48x128, .f32⟩
  | 60 => ⟨S_, .f32⟩
  | 61 => ⟨S4096x48x1, .f32⟩
  | 62 => ⟨S4096x48x1, .f32⟩
  | 63 => ⟨S4096x48x1, .f32⟩
  | 64 => ⟨S4096x48x128, .f32⟩
  | 65 => ⟨S4096x48x128, .f32⟩
  | 66 => ⟨S1x1x128, .f32⟩
  | 67 => ⟨S4096x48x128, .f32⟩
  | 68 => ⟨S4096x48x128, .f32⟩
  | 69 => ⟨S1x1x128, .f32⟩
  | 70 => ⟨S4096x48x128, .f32⟩
  | 71 => ⟨S4096x48x128, .f32⟩
  | 72 => ⟨S4x1024x48x128, .f32⟩
  | _ => ⟨S4x1024x4x3, .f32⟩

abbrev hbmTy (i : Nat) : BufTy := match i / 128 with
  | 0 => hbmTy0_0 i
  | 1 => hbmTy0_1 i
  | _ => ⟨S4x1024x4x3, .f32⟩

abbrev bufTy : (tb : Table) → Fin (tcTables nBuf tb) → BufTy
  | .hbm, ⟨i, _⟩ => hbmTy i
  | _, _ => ⟨S4x1024x4x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst : Ref sig .tc := ⟨.hbm, 57, rfl⟩
abbrev main_v47 : Ref sig .tc := ⟨.hbm, 58, rfl⟩
abbrev main_v48 : Ref sig .tc := ⟨.hbm, 59, rfl⟩
abbrev main_cst_1 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_2 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_call0_v0 : Ref sig .tc := ⟨.hbm, 74, rfl⟩
abbrev main_v61 : Ref sig .tc := ⟨.hbm, 75, rfl⟩
abbrev main_call1_v0 : Ref sig .tc := ⟨.hbm, 76, rfl⟩
abbrev main_v62 : Ref sig .tc := ⟨.hbm, 77, rfl⟩
abbrev main_call2_v0 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_3 : Ref sig .tc := ⟨.hbm, 84, rfl⟩
abbrev main_v68 : Ref sig .tc := ⟨.hbm, 85, rfl⟩
abbrev main_cst_4 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_5 : Ref sig .tc := ⟨.hbm, 90, rfl⟩
abbrev main_cst_6 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_cst : Ref sig .tc := ⟨.hbm, 95, rfl⟩
abbrev main_call3_v3 : Ref sig .tc := ⟨.hbm, 96, rfl⟩
abbrev main_call3_v4 : Ref sig .tc := ⟨.hbm, 97, rfl⟩
abbrev main_call3_cst_0 : Ref sig .tc := ⟨.hbm, 98, rfl⟩
abbrev main_call3_v5 : Ref sig .tc := ⟨.hbm, 99, rfl⟩
abbrev main_call3_v6 : Ref sig .tc := ⟨.hbm, 100, rfl⟩
abbrev main_call3_v7 : Ref sig .tc := ⟨.hbm, 101, rfl⟩
abbrev main_call3_cst_1 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_v15 : Ref sig .tc := ⟨.hbm, 110, rfl⟩
abbrev main_call3_v16 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_7 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_call4_v0 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_8 : Ref sig .tc := ⟨.hbm, 131, rfl⟩
abbrev main_v89 : Ref sig .tc := ⟨.hbm, 132, rfl⟩
abbrev main_v90 : Ref sig .tc := ⟨.hbm, 133, rfl⟩
abbrev main_c_9 : Ref sig .tc := ⟨.hbm, 134, rfl⟩
abbrev main_c_10 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_call5_v3 : Ref sig .tc := ⟨.hbm, 139, rfl⟩
abbrev main_call5_v4 : Ref sig .tc := ⟨.hbm, 140, rfl⟩
abbrev main_v91 : Ref sig .tc := ⟨.hbm, 141, rfl⟩
abbrev main_call6_v0 : Ref sig .tc := ⟨.hbm, 142, rfl⟩
abbrev main_call6_v1 : Ref sig .tc := ⟨.hbm, 143, rfl⟩
abbrev main_call6_v2 : Ref sig .tc := ⟨.hbm, 144, rfl⟩
abbrev main_call6_v3 : Ref sig .tc := ⟨.hbm, 145, rfl⟩
abbrev main_call6_v4 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_cst_11 : Ref sig .tc := ⟨.hbm, 156, rfl⟩
abbrev main_v101 : Ref sig .tc := ⟨.hbm, 157, rfl⟩
abbrev main_v102 : Ref sig .tc := ⟨.hbm, 158, rfl⟩
abbrev main_cst_12 : Ref sig .tc := ⟨.hbm, 159, rfl⟩
abbrev main_v103 : Ref sig .tc := ⟨.hbm, 160, rfl⟩
abbrev main_v104 : Ref sig .tc := ⟨.hbm, 161, rfl⟩
abbrev main_c_13 : Ref sig .tc := ⟨.hbm, 162, rfl⟩
abbrev main_call7_cst : Ref sig .tc := ⟨.hbm, 163, rfl⟩
abbrev main_call7_v0 : Ref sig .tc := ⟨.hbm, 164, rfl⟩
abbrev main_call7_v1 : Ref sig .tc := ⟨.hbm, 165, rfl⟩
abbrev main_call7_cst_0 : Ref sig .tc := ⟨.hbm, 166, rfl⟩
abbrev main_call7_v2 : Ref sig .tc := ⟨.hbm, 167, rfl⟩
abbrev main_call7_v3 : Ref sig .tc := ⟨.hbm, 168, rfl⟩
abbrev main_call7_v4 : Ref sig .tc := ⟨.hbm, 169, rfl⟩
abbrev main_call7_v5 : Ref sig .tc := ⟨.hbm, 170, rfl⟩
abbrev main_call7_v6 : Ref sig .tc := ⟨.hbm, 171, rfl⟩
abbrev main_call7_v7 : Ref sig .tc := ⟨.hbm, 172, rfl⟩
abbrev main_call7_cst_1 : Ref sig .tc := ⟨.hbm, 173, rfl⟩
abbrev main_call7_v8 : Ref sig .tc := ⟨.hbm, 174, rfl⟩
abbrev main_call7_cst_2 : Ref sig .tc := ⟨.hbm, 175, rfl⟩
abbrev main_call7_v9 : Ref sig .tc := ⟨.hbm, 176, rfl⟩
abbrev main_call7_v10 : Ref sig .tc := ⟨.hbm, 177, rfl⟩
abbrev main_call7_v11 : Ref sig .tc := ⟨.hbm, 178, rfl⟩
abbrev main_call7_v12 : Ref sig .tc := ⟨.hbm, 179, rfl⟩
abbrev main_call7_cst_3 : Ref sig .tc := ⟨.hbm, 180, rfl⟩
abbrev main_call7_v13 : Ref sig .tc := ⟨.hbm, 181, rfl⟩
abbrev main_call7_cst_4 : Ref sig .tc := ⟨.hbm, 182, rfl⟩
abbrev main_call7_call0_v0 : Ref sig .tc := ⟨.hbm, 183, rfl⟩
abbrev main_call7_call0_v1 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_cst_14 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩

abbrev nD : Nat := 1
abbrev τ : Topo := Topo.v7x

variable {F : FTy → Type} [FloatOps F]
-- ==== Neighbours.lean ====
abbrev S4x1024x4x3 : Shape := ⟨4, ![4, 1024, 4, 3]⟩
abbrev S4x1024 : Shape := ⟨2, ![4, 1024]⟩
abbrev S4x1024x1x3 : Shape := ⟨4, ![4, 1024, 1, 3]⟩
abbrev S4x1024x3 : Shape := ⟨3, ![4, 1024, 3]⟩
abbrev S4096x3 : Shape := ⟨2, ![4096, 3]⟩
abbrev S4x3x1024 : Shape := ⟨3, ![4, 3, 1024]⟩
abbrev S4096x1 : Shape := ⟨2, ![4096, 1]⟩
abbrev S4x1x1024 : Shape := ⟨3, ![4, 1, 1024]⟩
abbrev S4096x48 : Shape := ⟨2, ![4096, 48]⟩
abbrev S128x3 : Shape := ⟨2, ![128, 3]⟩
abbrev S1x3x1024 : Shape := ⟨3, ![1, 3, 1024]⟩
abbrev S128x1 : Shape := ⟨2, ![128, 1]⟩
abbrev S1x1x1024 : Shape := ⟨3, ![1, 1, 1024]⟩
abbrev S128x48 : Shape := ⟨2, ![128, 48]⟩
abbrev S3x1024 : Shape := ⟨2, ![3, 1024]⟩
abbrev S1x1024 : Shape := ⟨2, ![1, 1024]⟩
abbrev S128x1024 : Shape := ⟨2, ![128, 1024]⟩
abbrev S128 : Shape := ⟨1, ![128]⟩

abbrev nBuf : Space → Nat
  | .hbm => 11
  | .vmem => 10
  | .smem => 0
  | _ => 0

abbrev bufTy : (tb : Table) → Fin (tcTables nBuf tb) → BufTy
  | .hbm, ⟨0, _⟩ => ⟨S4x1024x4x3, .f32⟩
  | .hbm, ⟨1, _⟩ => ⟨S4x1024, .f32⟩
  | .hbm, ⟨2, _⟩ => ⟨S4x1024x1x3, .f32⟩
  | .hbm, ⟨3, _⟩ => ⟨S4x1024x3, .f32⟩
  | .hbm, ⟨4, _⟩ => ⟨S4096x3, .f32⟩
  | .hbm, ⟨5, _⟩ => ⟨S4x1024x1x3, .f32⟩
  | .hbm, ⟨6, _⟩ => ⟨S4x1024x3, .f32⟩
  | .hbm, ⟨7, _⟩ => ⟨S4x3x1024, .f32⟩
  | .hbm, ⟨8, _⟩ => ⟨S4096x1, .f32⟩
  | .hbm, ⟨9, _⟩ => ⟨S4x1x1024, .f32⟩
  | .hbm, ⟨10, _⟩ => ⟨S4096x48, .i32⟩
  | .local _ .vmem, ⟨0, _⟩ => ⟨S128x3, .f32⟩
  | .local _ .vmem, ⟨1, _⟩ => ⟨S128x3, .f32⟩
  | .local _ .vmem, ⟨2, _⟩ => ⟨S1x3x1024, .f32⟩
  | .local _ .vmem, ⟨3, _⟩ => ⟨S1x3x1024, .f32⟩
  | .local _ .vmem, ⟨4, _⟩ => ⟨S128x1, .f32⟩
  | .local _ .vmem, ⟨5, _⟩ => ⟨S128x1, .f32⟩
  | .local _ .vmem, ⟨6, _⟩ => ⟨S1x1x1024, .f32⟩
  | .local _ .vmem, ⟨7, _⟩ => ⟨S1x1x1024, .f32⟩
  | .local _ .vmem, ⟨8, _⟩ => ⟨S128x48, .i32⟩
  | .local _ .vmem, ⟨9, _⟩ => ⟨S128x48, .i32⟩
  | _, _ => ⟨S4x1024x4x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x48 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NeighboursIdeal.lean ====
variable {F : FTy → Type} [FloatOps F] [Named F]
def κ : String → Option EReal := fun
  | "taken" => some ⊤
  | _ => none
-- ==== NeighboursReferenceIdeal.lean ====
abbrev S4x1024x4x3 : Shape := ⟨4, ![4, 1024, 4, 3]⟩
abbrev S4x1024 : Shape := ⟨2, ![4, 1024]⟩
abbrev S4x1024x1x3 : Shape := ⟨4, ![4, 1024, 1, 3]⟩
abbrev S4x1024x3 : Shape := ⟨3, ![4, 1024, 3]⟩
abbrev S4x1x1024 : Shape := ⟨3, ![4, 1, 1024]⟩
abbrev S4x1024x1 : Shape := ⟨3, ![4, 1024, 1]⟩
abbrev S4x1024x1024 : Shape := ⟨3, ![4, 1024, 1024]⟩
abbrev S4x1x1024x3 : Shape := ⟨4, ![4, 1, 1024, 3]⟩
abbrev S4x1024x1024x3 : Shape := ⟨4, ![4, 1024, 1024, 3]⟩
abbrev S_ : Shape := ⟨0, ![]⟩
abbrev S4x1024x48 : Shape := ⟨3, ![4, 1024, 48]⟩
abbrev S4 : Shape := ⟨1, ![4]⟩
abbrev S4x1x1 : Shape := ⟨3, ![4, 1, 1]⟩
abbrev S4096x48 : Shape := ⟨2, ![4096, 48]⟩

abbrev nBuf : Space → Nat
  | .hbm => 42
  | .vmem => 0
  | .smem => 0
  | _ => 0

abbrev bufTy : (tb : Table) → Fin (tcTables nBuf tb) → BufTy
  | .hbm, ⟨0, _⟩ => ⟨S4x1024x4x3, .f32⟩
  | .hbm, ⟨1, _⟩ => ⟨S4x1024, .f32⟩
  | .hbm, ⟨2, _⟩ => ⟨S4x1024x1x3, .f32⟩
  | .hbm, ⟨3, _⟩ => ⟨S4x1024x3, .f32⟩
  | .hbm, ⟨4, _⟩ => ⟨S4x1x1024, .f32⟩
  | .hbm, ⟨5, _⟩ => ⟨S4x1024x1, .f32⟩
  | .hbm, ⟨6, _⟩ => ⟨S4x1024x1024, .f32⟩
  | .hbm, ⟨7, _⟩ => ⟨S4x1024x1024, .f32⟩
  | .hbm, ⟨8, _⟩ => ⟨S4x1024x1024, .f32⟩
  | .hbm, ⟨9, _⟩ => ⟨S4x1x1024x3, .f32⟩
  | .hbm, ⟨10, _⟩ => ⟨S4x1024x1x3, .f32⟩
  | .hbm, ⟨11, _⟩ => ⟨S4x1024x1024x3, .f32⟩
  | .hbm, ⟨12, _⟩ => ⟨S4x1024x1024x3, .f32⟩
  | .hbm, ⟨13, _⟩ => ⟨S4x1024x1024x3, .f32⟩
  | .hbm, ⟨14, _⟩ => ⟨S4x1024x1024x3, .f32⟩
  | .hbm, ⟨15, _⟩ => ⟨S_, .f32⟩
  | .hbm, ⟨16, _⟩ => ⟨S4x1024x1024, .f32⟩
  | .hbm, ⟨17, _⟩ => ⟨S_, .f32⟩
  | .hbm, ⟨18, _⟩ => ⟨S4x1024x1024, .f32⟩
  | .hbm, ⟨19, _⟩ => ⟨S4x1024x1024, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024, .f32⟩
  | .hbm, ⟨24, _⟩ => ⟨S4x1024x1, .f32⟩
  | .hbm, ⟨25, _⟩ => ⟨S_, .f32⟩
  | .hbm, ⟨26, _⟩ => ⟨S4x1024x1024, .f32⟩
  | .hbm, ⟨27, _⟩ => ⟨S4x1024x1024, .f32⟩
  | .hbm, ⟨28, _⟩ => ⟨S4x1024x1024, .f32⟩
  | .hbm, ⟨29, _⟩ => ⟨S4x1024x1024, .f32⟩
  | .hbm, ⟨30, _⟩ => ⟨S4x1024x1024, .f32⟩
  | .hbm, ⟨31, _⟩ => ⟨S4x1024x1024, .f32⟩
  | .hbm, ⟨32, _⟩ => ⟨S4x1024x48, .f32⟩
  | .hbm, ⟨33, _⟩ => ⟨S4x1024x48, .i32⟩
  | .hbm, ⟨34, _⟩ => ⟨S4, .i32⟩
  | .hbm, ⟨35, _⟩ => ⟨S4x1x1, .i32⟩
  | .hbm, ⟨36, _⟩ => ⟨S_, .i32⟩
  | .hbm, ⟨37, _⟩ => ⟨S4x1x1, .i32⟩
  | .hbm, ⟨38, _⟩ => ⟨S4x1x1, .i32⟩
  | .hbm, ⟨39, _⟩ => ⟨S4x1024x48, .i32⟩
  | .hbm, ⟨40, _⟩ => ⟨S4x1024x48, .i32⟩
  | .hbm, ⟨41, _⟩ => ⟨S4096x48, .i32⟩
  | _, _ => ⟨S4x1024x4x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_values : Ref sig .tc := ⟨.hbm, 32, rfl⟩
abbrev main_indices : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Proof.Setup.lean ====
/-
  The program as the launch theorem for SparseCore programs sees it: its body table, the resource algebra of the
  proof (the handshakes' rounds, the pipelines' rounds, the transfers' counters), the buffers the SparseCore call
  reads and writes, and how those split among the thirty-two tiles: the index list and the gathered rows into
  thirty-two blocks of 6144 rows, the table into thirty-two read shares.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The body table and the launch's facts -/

/-- The labels of the two TensorCore calls' pipelines over the kernels'. -/
abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' rounds. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipelines' part of the algebra, embedded. -/
def EP : Emb UP (MT nD τ sig (HIx 1) (Elt F) ℕ UU ℕ) := (Emb.inl : Emb UP (UP × Counters)).trans embR

instance EP_landsIn : (EP (F := F)).LandsIn (upEmb : UEmb _ 𝕄) := by
  unfold EP; infer_instance

/-! ## The SparseCore call's buffers -/

/-- The atoms table, the neighbour list and the gathered rows, as the TensorCore names them. -/
abbrev xLoc (d : Dev nD) : Loc nD τ sig := (SparseCore.T d).loc main_v3
abbrev iLoc (d : Dev nD) : Loc nD τ sig := (SparseCore.T d).loc main_v4
abbrev oLoc (d : Dev nD) : Loc nD τ sig := (SparseCore.T d).loc main_v5

theorem idiv : 32 ∣ S196608.size 0 := ⟨6144, rfl⟩
theorem odiv : 32 ∣ S196608x16.size 0 := ⟨6144, rfl⟩
abbrev irow (i : Fin 32) : Rect S196608 := Rect.part (s := S196608) (a₀ := 0) idiv i
abbrev orow (i : Fin 32) : Rect S196608x16 := Rect.part (s := S196608x16) (a₀ := 0) odiv i

/-- Tile `s` of SparseCore `c` works on block `2 s + c`. -/
def wid (c : Fin 2) (s : Fin 16) : Fin 32 := ⟨2 * s.val + c.val, by omega⟩

theorem wid_bijective : Function.Bijective fun x : Fin 2 × Fin 16 => wid x.1 x.2 := by decide

/-- The pairs (SparseCore, tile) are the thirty-two blocks. -/
def widEquiv : Fin 2 × Fin 16 ≃ Fin 32 := Equiv.ofBijective _ wid_bijective

/-! ## Read shares of the table: the full share halved five times -/

/-- Leaf `i` of the depth-`n` halving of share `q`: bit `n - 1` of `i` says which half to enter first. -/
def shareLeaf (n : ℕ) : PosShare TreeShare → ℕ → PosShare TreeShare :=
  Nat.rec (fun q _ => q) (fun n ih q i => if i < 2 ^ n then ih q.left i else ih q.right (i - 2 ^ n)) n

theorem shareLeaf_succ (n : ℕ) (q : PosShare TreeShare) (i : ℕ) :
    shareLeaf (n + 1) q i = if i < 2 ^ n then shareLeaf n q.left i else shareLeaf n q.right (i - 2 ^ n) := rfl

/-- The leaves of depth `n + 1`: those of the left half, then those of the right half. -/
def leafSum (n : ℕ) : Fin (2 ^ n) ⊕ Fin (2 ^ n) ≃ Fin (2 ^ (n + 1)) :=
  finSumFinEquiv.trans (finCongr (by rw [pow_succ]; omega))

theorem leafSum_inl (n : ℕ) (i : Fin (2 ^ n)) : (leafSum n (Sum.inl i)).val = i.val := by simp [leafSum]
theorem leafSum_inr (n : ℕ) (i : Fin (2 ^ n)) : (leafSum n (Sum.inr i)).val = 2 ^ n + i.val := by simp [leafSum]; omega

theorem shareLeaf_inl (n : ℕ) (q : PosShare TreeShare) (i : Fin (2 ^ n)) :
    shareLeaf (n + 1) q (leafSum n (Sum.inl i)).val = shareLeaf n q.left i.val := by
  rw [shareLeaf_succ, leafSum_inl, if_pos i.isLt]
theorem shareLeaf_inr (n : ℕ) (q : PosShare TreeShare) (i : Fin (2 ^ n)) :
    shareLeaf (n + 1) q (leafSum n (Sum.inr i)).val = shareLeaf n q.right i.val := by
  rw [shareLeaf_succ, leafSum_inr, if_neg (by omega), Nat.add_sub_cancel_left]

/-- A buffer held at a share is held at all that share's leaves at once. -/
theorem pointsTo_shareLeaves {ℓ : Loc nD τ sig} (I : Finset (Idx ℓ)) (f : Buf (Elt F) ℓ) (n : ℕ) :
    ∀ q : PosShare TreeShare, (ℓ ↦[I]{q} f : sProp 𝕄) = bigSep Finset.univ fun i : Fin (2 ^ n) => ℓ ↦[I]{shareLeaf n q i.val} f := by
  induction n with
  | zero => exact fun q => (bigSep_univ_of_subsingleton (0 : Fin 1) (Φ := fun i : Fin (2 ^ 0) => (ℓ ↦[I]{shareLeaf 0 q i.val} f : sProp 𝕄))).symm
  | succ n ih =>
    intro q
    rw [bigSep_univ_equiv (leafSum n) (fun i : Fin (2 ^ (n + 1)) => (ℓ ↦[I]{shareLeaf (n + 1) q i.val} f : sProp 𝕄)), bigSep_univ_sum,
      BI.Entails.antisymm (pointsTo_share (PosShare.mem_left_op_right q)).1 (pointsTo_share (PosShare.mem_left_op_right q)).2,
      ih q.left, ih q.right]
    congr 1 <;> refine bigSep_congr fun i _ => ?_
    · rw [shareLeaf_inl]
    · rw [shareLeaf_inr]

/-- Block `i`'s share of the table. -/
abbrev xq (i : Fin 32) : PosShare TreeShare := shareLeaf 5 fullShare i.val

/-! ## Splitting over the tiles -/

/-- The index list is its thirty-two blocks. -/
theorem iPts_rows (d : Dev nD) (f : Buf (Elt F) (iLoc d)) :
    (iLoc d ↦{fullShare} f : sProp 𝕄) = bigSep Finset.univ fun i : Fin 32 => iLoc d ↦[(irow i).set]{fullShare} f := by
  rw [← pointsTo_biUnion Finset.univ (ℓ := iLoc d) (fun i => (irow i).set) (fun i _ j _ h => Rect.part_disjoint idiv h), Rect.biUnion_part idiv]

/-- The gathered rows are their thirty-two blocks. -/
theorem oPts_rows (d : Dev nD) (f : Buf (Elt F) (oLoc d)) :
    (oLoc d ↦{fullShare} f : sProp 𝕄) = bigSep Finset.univ fun i : Fin 32 => oLoc d ↦[(orow i).set]{fullShare} f := by
  rw [← pointsTo_biUnion Finset.univ (ℓ := oLoc d) (fun i => (orow i).set) (fun i _ j _ h => Rect.part_disjoint odiv h), Rect.biUnion_part odiv]

/-- The table is its thirty-two shares. -/
theorem xPts_shares (d : Dev nD) (f : Buf (Elt F) (xLoc d)) :
    (xLoc d ↦{fullShare} f : sProp 𝕄) = bigSep Finset.univ fun i : Fin 32 => xLoc d ↦{xq i} f :=
  pointsTo_shareLeaves Finset.univ f 5 fullShare

/-- Thirty-two pieces, dealt to the two SparseCores' sixteen tiles each. -/
theorem bigSep_wid (Φ : Fin 32 → sProp 𝕄) :
    (bigSep Finset.univ Φ) = bigSep Finset.univ fun c : Fin 2 => bigSep Finset.univ fun s : Fin 16 => Φ (wid c s) := by
  rw [bigSep_univ_equiv widEquiv Φ, bigSep_univ_prod]; rfl

end Cert.Proof

end
-- ==== Proof.Region.lean ====
/-
  A TensorCore call of @main, entered while the TensorCore is between SparseCore calls.

  Before the SparseCore call the TensorCore owes the SparseCores their start; the waits it has recorded so far lie at
  or below the current call's level.  The staging buffers' waits lie below every level of the handshake, so a
  TensorCore call keeps both facts.  `region` is that: given the pipeline's proof data over a valuation of the
  buffers, it runs from "every unscoped buffer at the valuation, the thread's handshake state" to the same with the
  result's array at what the write-backs leave.
-/
module

public import proofs.«01_k».proof.Proof.Setup
public import Idealize.ShloMosaic.Lib.Pipeline.RegionArraysS

@[expose] public section

noncomputable section

namespace Cert.Proof

open Cert.KernelIdeal Cert.KernelIdeal.Gen

open Idealize.ShloMosaic
open Idealize.ShloMosaic.TcCoe
open Idealize.ShloMosaic.SparseCore.Cfg (HIx Pay WBelow)
open Idealize.ShloMosaic.Pipeline (Dat pin BodyObligation RegionSeg LaunchFacts ucRefs arrRef arrRefs afterRegion)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Neither TensorCore call has prefetched tables. -/
abbrev adm : (p : Fin 2) → (pcfgs (F := F) p).Adm := fun p => (cfgs p).toPCfg_adm

/-- The waits the TensorCore may have recorded before SparseCore call `n`. -/
def recs (n : ℕ) (d : Dev nD) : Set (SemLoc sig × HIx 1) := {p | (K (F := F)).lev (SparseCore.T d, p.1) p.2 ≤ 8 * n}

/-- The handshake state without what the thread owes. -/
def tcTail (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp 𝕄)
    = iprop((∃ W, ⌜(K (F := F)).WBelow (SparseCore.T d) W (8 * n)⌝ ∗ owes (SparseCore.T d) ((K (F := F)).Otc d n) W) ∗ tcTail d n) := rfl

theorem hK (p : Fin 2) : (pcfgs (F := F) p).pre.K = 0 := by fin_cases p <;> rfl
theorem hS (p : Fin 2) : arrRefs (τ := τ) (pcfgs (F := F) p).spec ⊆ ucRefs τ sig :=
  match p with
  | 0 => Pipeline.arrRefs_sub_ucRefs spec0 (by decide)
  | 1 => Pipeline.arrRefs_sub_ucRefs spec2 (by decide)

section Seg

variable (p : Fin 2) (pdats : (p : Fin 2) → (c : Dev nD) → Dat τ (Elt F) (HIx 1) ℕ UU ℕ (pin (pcfgs (F := F)) adm p) c) (n : ℕ)

/-- The region's record, from its proof data: the body's obligation, what it owes and has recorded, the invariant
    (the scoped buffers no window stages), full shares, and the arrays at the entry valuation. -/
def region (kit : Pipeline.PLaunchFacts (nD := nD) (τ := τ) (pcfgs (F := F)) p)
    (hbody : ∀ c, BodyObligation (pdats p c) defs₀ 𝒱₀ none Set.univ)
    (howed : ∀ c t, (pdats p c).owed t = (K (F := F)).Otc c n) (hrec : ∀ c t, (pdats p c).recorded t = recs (F := F) n c)
    (hΦ : ∀ c t, (pdats p c).Φ t = Pipeline.scopedRest (pin (pcfgs (F := F)) adm p).spec c)
    (hshare : ∀ c w, (pdats p c).share w = fullShare)
    (W : Dev nD → Valuation τ sig (Elt F))
    (hW : ∀ c w, (pdats p c).arrAt w 0 = W c (Proc.devRef .tc (arrRef (pin (pcfgs (F := F)) adm p).spec w))) :
    RegionSeg (pcfgs (F := F)) adm pdats none defs₀ 𝒱₀ (K (F := F)).L (K (F := F)).lev p where
  win := kit.to₀.win
  block_pos := kit.block_pos
  stage_whole := kit.stage_whole
  K := PEmpty
  osem k := k.elim
  ho := Pipeline.OwnSemFacts.none _
  hbody c := (hbody c).loose
  hwaits c := Pipeline.cellsWaits_of_cut (pin (pcfgs (F := F)) adm) pdats none p c 0 ((K (F := F)).Otc c n) (howed c)
    (fun _ _ => Finset.mem_univ _) (fun _ _ => le_rfl) (fun g i h => ⟨Finset.mem_univ _, lt_of_lt_of_le (Nat.succ_pos _) ((K (F := F)).lev_of_Otc_pos h)⟩)
  pre c := iprop(StableHlo.held (c.tc : Thread nD τ) (ucRefs τ sig) (W c) ∗ (K (F := F)).tcSt EH c n)
  post c := iprop(StableHlo.held (c.tc : Thread nD τ) (ucRefs τ sig) (afterRegion (pdats p c) (W c)) ∗ (K (F := F)).tcSt EH c n)
  X _ := iprop(emp)
  Y _ := iprop(emp)
  Z c := iprop(StableHlo.held (c.tc : Thread nD τ) (ucRefs τ sig \ arrRefs (pcfgs (F := F) p).spec) (W c) ∗ tcTail c n)
  hentry c := by
    rw [Pipeline.ownSems0_none, Pipeline.prefHeld_of_none _ (hK (F := F) p), Pipeline.arrays_held (pcfgs (F := F)) adm pdats p kit c (hshare c) ((pdats p c).arrAt · 0) (W c) (hW c),
      tcSt_eq, StableHlo.held_sub_split (c.tc : Thread nD τ) (hS (F := F) p) (W c)]
    iintro ⟨⟨⟨Ha, Hu⟩, HO, Ht⟩, -, -⟩
    imodintro
    isplitl [Ha]; · iexact Ha
    isplitr; · iempintro
    isplitl [HO]
    · unfold Pipeline.Dat.owesAt Pipeline.owesWithin Pipeline.Dat.bound
      rw [howed c 0, hrec c]
      icases HO with ⟨%Wd, %hWd, HO⟩; iexists Wd; isplitr; · ipureintro; exact fun q hq => Or.inl (hWd q hq)
      iexact HO
    isplitr; · iempintro
    isplitl [Hu]; · iexact Hu
    iexact Ht
  hin c := by
    rw [hΦ]
    iintro ⟨-, -, Hr⟩; iexact Hr
  hout c := by
    rw [Pipeline.ownSems0_none, hΦ]
    iintro Hr
    isplitr; · iempintro
    isplitr; · iempintro
    iexact Hr
  hexit c := by
    rw [Pipeline.arrays_held (pcfgs (F := F)) adm pdats p kit c (hshare c) ((pdats p c).arrAt · _) (afterRegion (pdats p c) (W c))
        (fun w => (Pipeline.afterRegion_arr (pdats p c) (W c) kit.win.arr_inj w).symm),
      tcSt_eq, StableHlo.held_sub_split (c.tc : Thread nD τ) (hS (F := F) p) (afterRegion (pdats p c) (W c)),
      StableHlo.held_congr (c.tc : Thread nD τ) (S := ucRefs τ sig \ arrRefs (pcfgs (F := F) p).spec) (V := afterRegion (pdats p c) (W c)) (V' := W c)
        (Pipeline.afterRegion_off (pdats p c) (W c) (ucRefs τ sig))]
    iintro ⟨Ha, HO, -, Hu, Ht⟩
    imodintro
    isplitl [Ha Hu]
    · isplitl [Ha]; · iexact Ha
      iexact Hu
    isplitl [HO]
    · unfold Pipeline.Dat.owesAt Pipeline.owesWithin Pipeline.Dat.bound
      rw [howed c (Fin.last _), hrec c]
      icases HO with ⟨%Wd, %hWd, HO⟩; iexists Wd; isplitr
      · ipureintro
        intro q hq
        rcases hWd hq with h | ⟨w, s, h⟩
        · exact h
        · rw [h]; exact Nat.zero_le _
      iexact HO
    iexact Ht

end Seg

end Cert.Proof

end
-- ==== Proof.AtomsBody.lean ====
/-
  The atoms kernel's body, run on its staging buffers: from the coordinates of four atoms a residue (twelve columns)
  and the residue numbers (one column) it leaves the sixteen columns of the atoms table: the twelve columns as they
  are, the three coordinates of the computed fifth atom, and the residue number.
-/
module

public import proofs.«01_k».proof.Proof.Setup
public import Idealize.ShloMosaic.Lib.Pointwise.Index
public import Idealize.ShloMosaic.Lib.Writes
public import Idealize.ShloMosaic.Lib.VecWindow

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A TensorCore memref's buffer on device `d`: the type of its contents, and it held whole at `f`. -/
abbrev Bf (d : Dev nD) {sp : Space} {S : Shape} {e : EltTy} (M : Memref sig .tc sp S e) : Type := Buf (Elt F) (M.view.loc (d : Thread nD τ))
abbrev pt (d : Dev nD) {sp : Space} {S : Shape} {e : EltTy} (M : Memref sig .tc sp S e) (f : Bf (F := F) d M) : sProp 𝕄 :=
  M.view.loc (d : Thread nD τ) ↦{fullShare} f

/-- Column `k` of the atoms table from the four atoms' coordinates `x` and the residue numbers `r`. -/
def atomsCol (x : S4096x12.Idx → F .f32) (r : S4096x1.Idx → F .f32) (i : Fin 4096) (k : Fin 16) : F .f32 :=
  if h : k.val < 12 then k0_pay3 x (ix2 i ⟨k.val, h⟩)
  else if k.val = 12 then k0_pay13 x (ix2 i 0)
  else if k.val = 13 then k0_pay14 x (ix2 i 0)
  else if k.val = 14 then k0_pay1 (k0_pay6 x) (k0_pay12 x) (k0_pay15 x) (Scalar.ofBits .f32 0x3F0A69A8#32) (ix2 i 0)
  else k0_pay2 r (ix2 i 0)

/-- The atoms table. -/
def atomsOf (x : S4096x12.Idx → F .f32) (r : S4096x1.Idx → F .f32) : S4096x16.Idx → F .f32 := fun j => atomsCol x r (j 0) (j 1)

/-- The six stores of the body, read back: they cover the sixteen columns. -/
theorem atoms_read {sp : Space} (v : View sig .tc sp S4096x16 .f32) (f : v.ty.Contents (Elt F))
    (x y : S4096x12.Idx → F .f32) (r q : S4096x1.Idx → F .f32) (hx : y = x) (hr : q = r) :
    v.read (Elt F) (v.writes (Elt F) f
      [⟨Rect.unit ![0, 15] ![4096, 1] inb_S4096x16_S4096x1_0_15, k0_pay2 q⟩,
       ⟨Rect.unit ![0, 14] ![4096, 1] inb_S4096x16_S4096x1_0_14, k0_pay1 (k0_pay6 y) (k0_pay12 y) (k0_pay15 y) (Scalar.ofBits .f32 0x3F0A69A8#32)⟩,
       ⟨Rect.unit ![0, 13] ![4096, 1] inb_S4096x16_S4096x1_0_13, k0_pay14 y⟩,
       ⟨Rect.unit ![0, 12] ![4096, 1] inb_S4096x16_S4096x1_0_12, k0_pay13 y⟩,
       ⟨Rect.unit ![0, 0] ![4096, 12] inb_S4096x16_S4096x12_0_0, k0_pay3 y⟩]) = atomsOf x r := by
  subst hx; subst hr
  funext j
  obtain ⟨i, k, rfl⟩ : ∃ (i : Fin 4096) (k : Fin 16), j = ix2 i k := ⟨j 0, j 1, eq_ix2 j⟩
  show _ = atomsCol y q i k
  unfold atomsCol
  have hit : ∀ (o : ℕ) (inb : ∀ a, (![0, o] : Fin 2 → ℕ) a + (![4096, 1] : Fin 2 → ℕ) a ≤ S4096x16.size a) (w : S4096x1.Idx → F .f32)
      (L : List (View.Piece (Elt F) S4096x16 .f32)), k.val = o →
      v.read (Elt F) (v.writes (Elt F) f (⟨Rect.unit ![0, o] ![4096, 1] inb, w⟩ :: L)) (ix2 i k) = w (ix2 i 0) := by
    intro o inb w L hk
    refine View.read_writes_cons_hit (Val := Elt F) v f (Rect.unit ![0, o] ![4096, 1] inb) w L (ix2 i (0 : Fin 1) : S4096x1.Idx) (ix2 i k : S4096x16.Idx) ?_
    refine (eq_ix2 (n0 := 4096) (n1 := 16) _).trans (congrArg₂ ix2 (Fin.ext ?_) (Fin.ext ?_))
    · show 0 + 1 * i.val = i.val; omega
    · show o + 1 * 0 = k.val; omega
  have miss : ∀ (o : ℕ) (inb : ∀ a, (![0, o] : Fin 2 → ℕ) a + (![4096, 1] : Fin 2 → ℕ) a ≤ S4096x16.size a) (w : S4096x1.Idx → F .f32)
      (L : List (View.Piece (Elt F) S4096x16 .f32)), k.val < o →
      v.read (Elt F) (v.writes (Elt F) f (⟨Rect.unit ![0, o] ![4096, 1] inb, w⟩ :: L)) (ix2 i k) = v.read (Elt F) (v.writes (Elt F) f L) (ix2 i k) := by
    intro o inb w L hk
    exact View.read_writes_cons_miss_of_axis v f _ L (ix2 i k) 1 o 1 rfl rfl rfl (Or.inl hk)
  have hk16 := k.isLt
  by_cases h15 : k.val = 15
  · rw [hit 15 _ _ _ h15, dif_neg (by omega), if_neg (by omega), if_neg (by omega), if_neg (by omega)]
  rw [miss 15 _ _ _ (by omega)]
  by_cases h14 : k.val = 14
  · rw [hit 14 _ _ _ h14, dif_neg (by omega), if_neg (by omega), if_neg (by omega), if_pos h14]
  rw [miss 14 _ _ _ (by omega)]
  by_cases h13 : k.val = 13
  · rw [hit 13 _ _ _ h13, dif_neg (by omega), if_neg (by omega), if_pos h13]
  rw [miss 13 _ _ _ (by omega)]
  by_cases h12 : k.val = 12
  · rw [hit 12 _ _ _ h12, dif_neg (by omega), if_pos h12]
  rw [miss 12 _ _ _ (by omega), dif_pos (by omega)]
  refine View.read_writes_cons_hit (Val := Elt F) v f (Rect.unit ![0, 0] ![4096, 12] inb_S4096x16_S4096x12_0_0) (k0_pay3 y) []
    (ix2 i ⟨k.val, by omega⟩ : S4096x12.Idx) (ix2 i k : S4096x16.Idx) ?_
  refine (eq_ix2 (n0 := 4096) (n1 := 16) _).trans (congrArg₂ ix2 (Fin.ext ?_) (Fin.ext ?_))
  · show 0 + 1 * i.val = i.val; omega
  · show 0 + 1 * k.val = k.val; omega

/-- The body's triple. -/
theorem atoms_body (d : Dev nD) (M0 : Memref sig .tc .vmem S4096x12 .f32) (h0 : M0.IsWhole) (M1 : Memref sig .tc .vmem S4096x1 .f32) (h1 : M1.IsWhole)
    (M2 : Memref sig .tc .vmem S4096x16 .f32) (h2 : M2.IsWhole)
    (f0 : Bf (F := F) d M0) (f1 : Bf (F := F) d M1) (f2 : Bf (F := F) d M2) (E : Set ℕ) (Q : PUnit → sProp 𝕄) :
    iprop(pt d M0 f0 ∗ pt d M1 f1 ∗ pt d M2 f2
        ∗ (∀ g, iprop(⌜M2.view.read (Elt F) g = atomsOf (M0.view.read (Elt F) f0) (M1.view.read (Elt F) f1)⌝ ∗ pt d M0 f0 ∗ pt d M1 f1 ∗ pt d M2 g) -∗ Q ⟨⟩))
      ⊢ wp frame (wpE (defs₀ (F := F)) Variants.none (d : Thread nD τ) none) E (cc0__atoms_kernel M0 h0 M1 h1 M2 h2) Q := by
  simp only [cc0__atoms_kernel_eq_skeleton]; unfold cc0__atoms_kernel_skel
  simp only [k0_part1_eq_skeleton]; unfold k0_part1_skel
  iintro ⟨H0, H1, H2, Hk⟩
  sl_exec
  sl_step
  iapply Hk
  isplitr; swap
  · isplitl [H0]; · iexact H0
    isplitl [H1]; · iexact H1
    iexact H2
  ipureintro
  exact atoms_read M2.view f2 _ _ _ _ (View.readAt_full M0.view f0 _) (View.readAt_full M1.view f1 _)

end Cert.Proof

end
-- ==== Proof.EdgeBody.lean ====
/-
  The edge kernel's body, run on its staging buffers: from a block of gathered neighbour rows, the block of the
  residues' own rows and the ten weights and tables it leaves a block of the result.
-/
module

public import proofs.«01_k».proof.Proof.AtomsBody
public import Idealize.ShloMosaic.Lib.Pointwise.Index
public import Idealize.ShloMosaic.Lib.Writes
public import Idealize.ShloMosaic.Lib.VecWindow

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The product with the output weights, and its sum over a row, of one block. -/
def edgeProd (x0 : S768x16.Idx → F .f32) (x1 : S16x16.Idx → F .f32) (x2 : S66x16.Idx → F .f32) (x3 : S1x16.Idx → F .f32) (x4 : S16x75.Idx → F .f32) (x5 : S16x75.Idx → F .f32) (x6 : S75x25.Idx → F .f32) (x7 : S25x400.Idx → F .f32) (x8 : S1x400.Idx → F .f32) (x9 : S416x128.Idx → F .f32) : S768x128.Idx → F .f32 :=
  k2_pay5 (k2_pay2 x0) (k2_pay3 x1) (k2_pay4 x0 x1) x2 x3 x4 x5 x6 x7 x8 x9
def edgeSum (x0 : S768x16.Idx → F .f32) (x1 : S16x16.Idx → F .f32) (x2 : S66x16.Idx → F .f32) (x3 : S1x16.Idx → F .f32) (x4 : S16x75.Idx → F .f32) (x5 : S16x75.Idx → F .f32) (x6 : S75x25.Idx → F .f32) (x7 : S25x400.Idx → F .f32) (x8 : S1x400.Idx → F .f32) (x9 : S416x128.Idx → F .f32) : S768x1.Idx → F .f32 :=
  k2_pay6 (k2_pay2 x0) (k2_pay3 x1) (k2_pay4 x0 x1) x2 x3 x4 x5 x6 x7 x8 x9
/-- One block of the result, from the blocks of the twelve operands. -/
def edgeOf (x0 : S768x16.Idx → F .f32) (x1 : S16x16.Idx → F .f32) (x2 : S66x16.Idx → F .f32) (x3 : S1x16.Idx → F .f32) (x4 : S16x75.Idx → F .f32) (x5 : S16x75.Idx → F .f32) (x6 : S75x25.Idx → F .f32) (x7 : S25x400.Idx → F .f32) (x8 : S1x400.Idx → F .f32) (x9 : S416x128.Idx → F .f32) (x10 : S1x128.Idx → F .f32) (x11 : S1x128.Idx → F .f32) : S768x128.Idx → F .f32 :=
  k2_pay1 (edgeProd x0 x1 x2 x3 x4 x5 x6 x7 x8 x9) (edgeSum x0 x1 x2 x3 x4 x5 x6 x7 x8 x9) x10 x11

/-- One store of the whole block, read back. -/
theorem edge_read {sp : Space} (v : View sig .tc sp S768x128 .f32) (f : v.ty.Contents (Elt F)) (w : S768x128.Idx → F .f32) :
    v.read (Elt F) (v.writes (Elt F) f [⟨Rect.unit ![0, 0] S768x128.size inb_S768x128_S768x128_0_0, w⟩]) = w := by
  funext j
  refine View.read_writes_cons_hit (Val := Elt F) v f (Rect.unit ![0, 0] S768x128.size inb_S768x128_S768x128_0_0) w [] j j ?_
  refine ((eq_ix2 (n0 := 768) (n1 := 128) _).trans (congrArg₂ ix2 (Fin.ext ?_) (Fin.ext ?_))).trans (eq_ix2 (n0 := 768) (n1 := 128) j).symm
  · show 0 + 1 * (j 0).val = (j 0).val; omega
  · show 0 + 1 * (j 1).val = (j 1).val; omega

theorem edgeOf_congr {x0 y0 : S768x16.Idx → F .f32} {x1 y1 : S16x16.Idx → F .f32} {x2 y2 : S66x16.Idx → F .f32} {x3 y3 : S1x16.Idx → F .f32} {x4 y4 : S16x75.Idx → F .f32} {x5 y5 : S16x75.Idx → F .f32} {x6 y6 : S75x25.Idx → F .f32} {x7 y7 : S25x400.Idx → F .f32} {x8 y8 : S1x400.Idx → F .f32} {x9 y9 : S416x128.Idx → F .f32} {x10 y10 : S1x128.Idx → F .f32} {x11 y11 : S1x128.Idx → F .f32}
    (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11) :
    k2_pay1 (k2_pay5 (k2_pay2 y0) (k2_pay3 y1) (k2_pay4 y0 y1) y2 y3 y4 y5 y6 y7 y8 y9)
      (k2_pay6 (k2_pay2 y0) (k2_pay3 y1) (k2_pay4 y0 y1) y2 y3 y4 y5 y6 y7 y8 y9) y10 y11 = edgeOf x0 x1 x2 x3 x4 x5 x6 x7 x8 x9 x10 x11 := by
  subst e0 e1 e2 e3 e4 e5 e6 e7 e8 e9 e10 e11; rfl

set_option maxHeartbeats 2000000 in
/-- The body's triple. -/
theorem edge_body (d : Dev nD) (i : grid2.Coords) (M0 : Memref sig .tc .vmem S768x16 .f32) (h0 : M0.IsWhole) (M1 : Memref sig .tc .vmem S16x16 .f32) (h1 : M1.IsWhole) (M2 : Memref sig .tc .vmem S66x16 .f32) (h2 : M2.IsWhole) (M3 : Memref sig .tc .vmem S1x16 .f32) (h3 : M3.IsWhole) (M4 : Memref sig .tc .vmem S16x75 .f32) (h4 : M4.IsWhole) (M5 : Memref sig .tc .vmem S16x75 .f32) (h5 : M5.IsWhole) (M6 : Memref sig .tc .vmem S75x25 .f32) (h6 : M6.IsWhole) (M7 : Memref sig .tc .vmem S25x400 .f32) (h7 : M7.IsWhole) (M8 : Memref sig .tc .vmem S1x400 .f32) (h8 : M8.IsWhole) (M9 : Memref sig .tc .vmem S416x128 .f32) (h9 : M9.IsWhole) (M10 : Memref sig .tc .vmem S1x128 .f32) (h10 : M10.IsWhole) (M11 : Memref sig .tc .vmem S1x128 .f32) (h11 : M11.IsWhole) (M12 : Memref sig .tc .vmem S768x128 .f32) (h12 : M12.IsWhole)
    (f0 : Bf (F := F) d M0) (f1 : Bf (F := F) d M1) (f2 : Bf (F := F) d M2) (f3 : Bf (F := F) d M3) (f4 : Bf (F := F) d M4) (f5 : Bf (F := F) d M5) (f6 : Bf (F := F) d M6) (f7 : Bf (F := F) d M7) (f8 : Bf (F := F) d M8) (f9 : Bf (F := F) d M9) (f10 : Bf (F := F) d M10) (f11 : Bf (F := F) d M11) (f12 : Bf (F := F) d M12) (E : Set ℕ) (Q : PUnit → sProp 𝕄) :
    iprop(pt d M0 f0 ∗ pt d M1 f1 ∗ pt d M2 f2 ∗ pt d M3 f3 ∗ pt d M4 f4 ∗ pt d M5 f5 ∗ pt d M6 f6 ∗ pt d M7 f7 ∗ pt d M8 f8 ∗ pt d M9 f9 ∗ pt d M10 f10 ∗ pt d M11 f11 ∗ pt d M12 f12
        ∗ (∀ g, iprop(⌜M12.view.read (Elt F) g = edgeOf (M0.view.read (Elt F) f0) (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10) (M11.view.read (Elt F) f11)⌝ ∗ pt d M0 f0 ∗ pt d M1 f1 ∗ pt d M2 f2 ∗ pt d M3 f3 ∗ pt d M4 f4 ∗ pt d M5 f5 ∗ pt d M6 f6 ∗ pt d M7 f7 ∗ pt d M8 f8 ∗ pt d M9 f9 ∗ pt d M10 f10 ∗ pt d M11 f11 ∗ pt d M12 g) -∗ Q ⟨⟩))
      ⊢ wp frame (wpE (defs₀ (F := F)) Variants.none (d : Thread nD τ) none) E (cc2__edge_kernel i M0 h0 M1 h1 M2 h2 M3 h3 M4 h4 M5 h5 M6 h6 M7 h7 M8 h8 M9 h9 M10 h10 M11 h11 M12 h12) Q := by
  simp only [cc2__edge_kernel_eq_skeleton]; unfold cc2__edge_kernel_skel
  simp only [k2_part1_eq_skeleton, k2_part2_eq_skeleton]; unfold k2_part1_skel k2_part2_skel
  iintro ⟨H0, H1, H2, H3, H4, H5, H6, H7, H8, H9, H10, H11, H12, Hk⟩
  sl_exec
  sl_step
  iapply Hk
  isplitr; swap
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  ipureintro
  refine (edge_read M12.view f12 _).trans ?_
  exact edgeOf_congr (View.readAt_full M0.view f0 _) (View.readAt_full M1.view f1 _) (View.readAt_full M2.view f2 _) (View.readAt_full M3.view f3 _) (View.readAt_full M4.view f4 _) (View.readAt_full M5.view f5 _) (View.readAt_full M6.view f6 _) (View.readAt_full M7.view f7 _) (View.readAt_full M8.view f8 _) (View.readAt_full M9.view f9 _) (View.readAt_full M10.view f10 _) (View.readAt_full M11.view f11 _)

end Cert.Proof

end
-- ==== Proof.Data.lean ====
/-
  The two TensorCore calls over a valuation of the buffers: what every window's staging buffer holds when the body
  has run, and that the bodies do it.

  The atoms' call has one point: its result's block is `atomsOf` of its two operands' blocks.  The edges' call has
  256 points: its result's block is `edgeOf` of the twelve operands' blocks.  An operand's block is its array read
  through the window, at every point, whether it was fetched there or earlier.
-/
module

public import proofs.«01_k».proof.Proof.Region
public import proofs.«01_k».proof.Proof.AtomsBody
public import proofs.«01_k».proof.Proof.EdgeBody
public import Idealize.ShloMosaic.Lib.Pipeline.FrameBody

@[expose] public section

noncomputable section

namespace Cert.Proof

open Cert.KernelIdeal Cert.KernelIdeal.Gen

open Idealize.ShloMosaic
open Idealize.ShloMosaic.TcCoe
open Idealize.ShloMosaic.SparseCore.Cfg (HIx Pay WBelow)
open Idealize.ShloMosaic.Pipeline (Dat pin BodyObligation RegionSeg LaunchFacts ucRefs arrRef arrRefs afterRegion)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The bodies' triples, over what the staging buffers read -/

/-- A whole staging buffer owned at contents `X` is its cells held at a buffer that reads `X`. -/
theorem owns_pt (d : Dev nD) {sp : Space} {S : Shape} {e : EltTy} (M : Memref sig .tc sp S e) (h : M.IsWhole) (X : S.Idx → Elt F e) :
    (owns (d : Thread nD τ) M fullShare X : sProp 𝕄) = iprop(∃ f : Bf (F := F) d M, ⌜M.view.read (Elt F) f = X⌝ ∗ pt d M f) := by
  unfold owns; rw [h.set_eq_univ]

theorem atoms_owns (d : Dev nD) (M0 : Memref sig .tc .vmem S4096x12 .f32) (h0 : M0.IsWhole) (M1 : Memref sig .tc .vmem S4096x1 .f32) (h1 : M1.IsWhole)
    (M2 : Memref sig .tc .vmem S4096x16 .f32) (h2 : M2.IsWhole) (X0 : S4096x12.Idx → F .f32) (X1 : S4096x1.Idx → F .f32) (X2 : S4096x16.Idx → F .f32)
    (E : Set ℕ) (Q : PUnit → sProp 𝕄) :
    iprop(owns (d : Thread nD τ) M0 fullShare X0 ∗ owns (d : Thread nD τ) M1 fullShare X1 ∗ owns (d : Thread nD τ) M2 fullShare X2
        ∗ (iprop(owns (d : Thread nD τ) M0 fullShare X0 ∗ owns (d : Thread nD τ) M1 fullShare X1 ∗ owns (d : Thread nD τ) M2 fullShare (atomsOf X0 X1)) -∗ Q ⟨⟩))
      ⊢ wp frame (wpE (defs₀ (F := F)) Variants.none (d : Thread nD τ) none) E (cc0__atoms_kernel M0 h0 M1 h1 M2 h2) Q := by
  rw [owns_pt d M0 h0, owns_pt d M1 h1, owns_pt d M2 h2, owns_pt d M2 h2]
  iintro ⟨⟨%f0, %e0, H0⟩, ⟨%f1, %e1, H1⟩, ⟨%f2, -, H2⟩, Hk⟩
  iapply (atoms_body d M0 h0 M1 h1 M2 h2 f0 f1 f2 E Q)
  isplitl [H0]; · iexact H0
  isplitl [H1]; · iexact H1
  isplitl [H2]; · iexact H2
  iintro %g ⟨%hg, H0, H1, H2⟩
  iapply Hk
  isplitl [H0]; · iexists f0; isplitr; (· ipureintro; exact e0); iexact H0
  isplitl [H1]; · iexists f1; isplitr; (· ipureintro; exact e1); iexact H1
  iexists g; isplitr; (· ipureintro; rw [hg, e0, e1]); iexact H2

set_option maxHeartbeats 1000000 in
theorem edge_owns (d : Dev nD) (i : grid2.Coords) (M0 : Memref sig .tc .vmem S768x16 .f32) (h0 : M0.IsWhole) (M1 : Memref sig .tc .vmem S16x16 .f32) (h1 : M1.IsWhole) (M2 : Memref sig .tc .vmem S66x16 .f32) (h2 : M2.IsWhole) (M3 : Memref sig .tc .vmem S1x16 .f32) (h3 : M3.IsWhole) (M4 : Memref sig .tc .vmem S16x75 .f32) (h4 : M4.IsWhole) (M5 : Memref sig .tc .vmem S16x75 .f32) (h5 : M5.IsWhole) (M6 : Memref sig .tc .vmem S75x25 .f32) (h6 : M6.IsWhole) (M7 : Memref sig .tc .vmem S25x400 .f32) (h7 : M7.IsWhole) (M8 : Memref sig .tc .vmem S1x400 .f32) (h8 : M8.IsWhole) (M9 : Memref sig .tc .vmem S416x128 .f32) (h9 : M9.IsWhole) (M10 : Memref sig .tc .vmem S1x128 .f32) (h10 : M10.IsWhole) (M11 : Memref sig .tc .vmem S1x128 .f32) (h11 : M11.IsWhole) (M12 : Memref sig .tc .vmem S768x128 .f32) (h12 : M12.IsWhole)
    (X0 : S768x16.Idx → F .f32) (X1 : S16x16.Idx → F .f32) (X2 : S66x16.Idx → F .f32) (X3 : S1x16.Idx → F .f32) (X4 : S16x75.Idx → F .f32) (X5 : S16x75.Idx → F .f32) (X6 : S75x25.Idx → F .f32) (X7 : S25x400.Idx → F .f32) (X8 : S1x400.Idx → F .f32) (X9 : S416x128.Idx → F .f32) (X10 : S1x128.Idx → F .f32) (X11 : S1x128.Idx → F .f32) (X12 : S768x128.Idx → F .f32)
    (E : Set ℕ) (Q : PUnit → sProp 𝕄) :
    iprop(owns (d : Thread nD τ) M0 fullShare X0 ∗ owns (d : Thread nD τ) M1 fullShare X1 ∗ owns (d : Thread nD τ) M2 fullShare X2 ∗ owns (d : Thread nD τ) M3 fullShare X3 ∗ owns (d : Thread nD τ) M4 fullShare X4 ∗ owns (d : Thread nD τ) M5 fullShare X5 ∗ owns (d : Thread nD τ) M6 fullShare X6 ∗ owns (d : Thread nD τ) M7 fullShare X7 ∗ owns (d : Thread nD τ) M8 fullShare X8 ∗ owns (d : Thread nD τ) M9 fullShare X9 ∗ owns (d : Thread nD τ) M10 fullShare X10 ∗ owns (d : Thread nD τ) M11 fullShare X11 ∗ owns (d : Thread nD τ) M12 fullShare X12
        ∗ (iprop(owns (d : Thread nD τ) M0 fullShare X0 ∗ owns (d : Thread nD τ) M1 fullShare X1 ∗ owns (d : Thread nD τ) M2 fullShare X2 ∗ owns (d : Thread nD τ) M3 fullShare X3 ∗ owns (d : Thread nD τ) M4 fullShare X4 ∗ owns (d : Thread nD τ) M5 fullShare X5 ∗ owns (d : Thread nD τ) M6 fullShare X6 ∗ owns (d : Thread nD τ) M7 fullShare X7 ∗ owns (d : Thread nD τ) M8 fullShare X8 ∗ owns (d : Thread nD τ) M9 fullShare X9 ∗ owns (d : Thread nD τ) M10 fullShare X10 ∗ owns (d : Thread nD τ) M11 fullShare X11 ∗ owns (d : Thread nD τ) M12 fullShare (edgeOf X0 X1 X2 X3 X4 X5 X6 X7 X8 X9 X10 X11)) -∗ Q ⟨⟩))
      ⊢ wp frame (wpE (defs₀ (F := F)) Variants.none (d : Thread nD τ) none) E (cc2__edge_kernel i M0 h0 M1 h1 M2 h2 M3 h3 M4 h4 M5 h5 M6 h6 M7 h7 M8 h8 M9 h9 M10 h10 M11 h11 M12 h12) Q := by
  rw [owns_pt d M0 h0, owns_pt d M1 h1, owns_pt d M2 h2, owns_pt d M3 h3, owns_pt d M4 h4, owns_pt d M5 h5, owns_pt d M6 h6, owns_pt d M7 h7, owns_pt d M8 h8, owns_pt d M9 h9, owns_pt d M10 h10, owns_pt d M11 h11, owns_pt d M12 h12, owns_pt d M12 h12]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, Hk⟩
  iapply (edge_body d i M0 h0 M1 h1 M2 h2 M3 h3 M4 h4 M5 h5 M6 h6 M7 h7 M8 h8 M9 h9 M10 h10 M11 h11 M12 h12 f0 f1 f2 f3 f4 f5 f6 f7 f8 f9 f10 f11 f12 E Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro %g ⟨%hg, H0, H1, H2, H3, H4, H5, H6, H7, H8, H9, H10, H11, H12⟩
  iapply Hk
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  isplitl [H7]; · iexists f7; isplitr; (· ipureintro; exact e7); iexact H7
  isplitl [H8]; · iexists f8; isplitr; (· ipureintro; exact e8); iexact H8
  isplitl [H9]; · iexists f9; isplitr; (· ipureintro; exact e9); iexact H9
  isplitl [H10]; · iexists f10; isplitr; (· ipureintro; exact e10); iexact H10
  isplitl [H11]; · iexists f11; isplitr; (· ipureintro; exact e11); iexact H11
  iexists g; isplitr; (· ipureintro; rw [hg, e0, e1, e2, e3, e4, e5, e6, e7, e8, e9, e10, e11]); iexact H12

variable (W : Dev nD → Valuation τ sig (Elt F))

/-! ## The atoms' call -/

/-- The block of window `w` at point `t`, of the arrays at the valuation. -/
abbrev blk0 (d : Dev nD) (w : Fin 3) (t : Fin cfg0.N) : ((cfg0.win w).xblock (cfg0.grid.coords t)).Idx → Elt F (cfg0.win w).elt :=
  ((cfg0.win w).blk t).view.read (Elt F) (W d (Proc.devRef .tc (arrRef spec0 w)))

/-- What the body leaves in each staging buffer. -/
def after0 (d : Dev nD) (w : Fin 3) (t : Fin cfg0.N) : (cfg0.win w).block.Idx → Elt F (cfg0.win w).elt :=
  match w with
  | ⟨0, _⟩ => blk0 W d 0 t
  | ⟨1, _⟩ => blk0 W d 1 t
  | ⟨2, _⟩ => atomsOf (blk0 W d 0 t) (blk0 W d 1 t)

def dat0 (d : Dev nD) : Dat τ (Elt F) (HIx 1) ℕ UU ℕ cfg0 d where
  A w := W d (Proc.devRef .tc (arrRef spec0 w))
  after w t := after0 W d w t
  Φ _ := Pipeline.scopedRest spec0 d
  q _ := fullShare
  owed _ := (K (F := F)).Otc d 0
  recorded _ := recs (F := F) 0 d

theorem before0_0 (d : Dev nD) (t : Fin cfg0.N) (g) : (dat0 W d).before 0 t g = blk0 W d 0 t :=
  (dat0 W d).before_in_eq_fetched 0 rfl (fun _ => rfl) (fun _ _ _ => rfl) (fun _ => rfl) t g
theorem before0_1 (d : Dev nD) (t : Fin cfg0.N) (g) : (dat0 W d).before 1 t g = blk0 W d 1 t :=
  (dat0 W d).before_in_eq_fetched 1 rfl (fun _ => rfl) (fun _ _ _ => rfl) (fun _ => rfl) t g

theorem body0 (d : Dev nD) : BodyObligation (dat0 W d) (defs₀ (F := F)) 𝒱₀ none Set.univ := fun t => by
  rw [bigSep_W0, bigSep_W0]
  simp only [before0_0, before0_1]
  rw [show (dat0 W d).Φ t.succ = (dat0 W d).Φ t.castSucc from rfl, show (dat0 W d).owesAt none t.succ = (dat0 W d).owesAt none t.castSucc from rfl]
  iintro ⟨HΦ, Howes, ⟨%d0, H0⟩, ⟨%d1, H1⟩, ⟨%d2, H2⟩⟩
  iapply (atoms_owns d (st0_0 t) (hstage0_0 0) (st0_1 t) (hstage0_1 0) (st0_2 t) (hstage0_2 0) (blk0 W d 0 t) (blk0 W d 1 t) ((dat0 W d).before 2 t d2) Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The edges' call -/

/-- The block of window `w` at point `t`, of the arrays at the valuation. -/
abbrev blk2 (d : Dev nD) (w : Fin 13) (t : Fin cfg2.N) : ((cfg2.win w).xblock (cfg2.grid.coords t)).Idx → Elt F (cfg2.win w).elt :=
  ((cfg2.win w).blk t).view.read (Elt F) (W d (Proc.devRef .tc (arrRef spec2 w)))

/-- The result's block at point `t`. -/
def outBlk (d : Dev nD) (t : Fin cfg2.N) : S768x128.Idx → F .f32 :=
  edgeOf (blk2 W d 0 t) (blk2 W d 1 t) (blk2 W d 2 t) (blk2 W d 3 t) (blk2 W d 4 t) (blk2 W d 5 t) (blk2 W d 6 t) (blk2 W d 7 t) (blk2 W d 8 t) (blk2 W d 9 t) (blk2 W d 10 t) (blk2 W d 11 t)

/-- What the body leaves in each staging buffer. -/
def after2 (d : Dev nD) (w : Fin 13) (t : Fin cfg2.N) : (cfg2.win w).block.Idx → Elt F (cfg2.win w).elt :=
  match w with
  | ⟨0, _⟩ => blk2 W d 0 t
  | ⟨1, _⟩ => blk2 W d 1 t
  | ⟨2, _⟩ => blk2 W d 2 t
  | ⟨3, _⟩ => blk2 W d 3 t
  | ⟨4, _⟩ => blk2 W d 4 t
  | ⟨5, _⟩ => blk2 W d 5 t
  | ⟨6, _⟩ => blk2 W d 6 t
  | ⟨7, _⟩ => blk2 W d 7 t
  | ⟨8, _⟩ => blk2 W d 8 t
  | ⟨9, _⟩ => blk2 W d 9 t
  | ⟨10, _⟩ => blk2 W d 10 t
  | ⟨11, _⟩ => blk2 W d 11 t
  | ⟨12, _⟩ => outBlk W d t

def dat2 (d : Dev nD) : Dat τ (Elt F) (HIx 1) ℕ UU ℕ cfg2 d where
  A w := W d (Proc.devRef .tc (arrRef spec2 w))
  after w t := after2 W d w t
  Φ _ := Pipeline.scopedRest spec2 d
  q _ := fullShare
  owed _ := (K (F := F)).Otc d 1
  recorded _ := recs (F := F) 1 d

theorem before2_0 (d : Dev nD) (t : Fin cfg2.N) (g) : (dat2 W d).before 0 t g = blk2 W d 0 t :=
  (dat2 W d).before_in_eq_fetched 0 rfl (fun _ => rfl) (fun _ _ _ => rfl) (fun _ => rfl) t g
theorem before2_1 (d : Dev nD) (t : Fin cfg2.N) (g) : (dat2 W d).before 1 t g = blk2 W d 1 t :=
  (dat2 W d).before_in_eq_fetched 1 rfl (fun _ => rfl) (fun _ _ _ => rfl) (fun _ => rfl) t g
theorem before2_2 (d : Dev nD) (t : Fin cfg2.N) (g) : (dat2 W d).before 2 t g = blk2 W d 2 t :=
  (dat2 W d).before_in_eq_fetched 2 rfl (fun _ => rfl) (fun _ _ _ => rfl) (fun _ => rfl) t g
theorem before2_3 (d : Dev nD) (t : Fin cfg2.N) (g) : (dat2 W d).before 3 t g = blk2 W d 3 t :=
  (dat2 W d).before_in_eq_fetched 3 rfl (fun _ => rfl) (fun _ _ _ => rfl) (fun _ => rfl) t g
theorem before2_4 (d : Dev nD) (t : Fin cfg2.N) (g) : (dat2 W d).before 4 t g = blk2 W d 4 t :=
  (dat2 W d).before_in_eq_fetched 4 rfl (fun _ => rfl) (fun _ _ _ => rfl) (fun _ => rfl) t g
theorem before2_5 (d : Dev nD) (t : Fin cfg2.N) (g) : (dat2 W d).before 5 t g = blk2 W d 5 t :=
  (dat2 W d).before_in_eq_fetched 5 rfl (fun _ => rfl) (fun _ _ _ => rfl) (fun _ => rfl) t g
theorem before2_6 (d : Dev nD) (t : Fin cfg2.N) (g) : (dat2 W d).before 6 t g = blk2 W d 6 t :=
  (dat2 W d).before_in_eq_fetched 6 rfl (fun _ => rfl) (fun _ _ _ => rfl) (fun _ => rfl) t g
theorem before2_7 (d : Dev nD) (t : Fin cfg2.N) (g) : (dat2 W d).before 7 t g = blk2 W d 7 t :=
  (dat2 W d).before_in_eq_fetched 7 rfl (fun _ => rfl) (fun _ _ _ => rfl) (fun _ => rfl) t g
theorem before2_8 (d : Dev nD) (t : Fin cfg2.N) (g) : (dat2 W d).before 8 t g = blk2 W d 8 t :=
  (dat2 W d).before_in_eq_fetched 8 rfl (fun _ => rfl) (fun _ _ _ => rfl) (fun _ => rfl) t g
theorem before2_9 (d : Dev nD) (t : Fin cfg2.N) (g) : (dat2 W d).before 9 t g = blk2 W d 9 t :=
  (dat2 W d).before_in_eq_fetched 9 rfl (fun _ => rfl) (fun _ _ _ => rfl) (fun _ => rfl) t g
theorem before2_10 (d : Dev nD) (t : Fin cfg2.N) (g) : (dat2 W d).before 10 t g = blk2 W d 10 t :=
  (dat2 W d).before_in_eq_fetched 10 rfl (fun _ => rfl) (fun _ _ _ => rfl) (fun _ => rfl) t g
theorem before2_11 (d : Dev nD) (t : Fin cfg2.N) (g) : (dat2 W d).before 11 t g = blk2 W d 11 t :=
  (dat2 W d).before_in_eq_fetched 11 rfl (fun _ => rfl) (fun _ _ _ => rfl) (fun _ => rfl) t g

set_option maxHeartbeats 1000000 in
theorem body2 (d : Dev nD) : BodyObligation (dat2 W d) (defs₀ (F := F)) 𝒱₀ none Set.univ := fun t => by
  rw [bigSep_W2, bigSep_W2]
  simp only [before2_0, before2_1, before2_2, before2_3, before2_4, before2_5, before2_6, before2_7, before2_8, before2_9, before2_10, before2_11]
  rw [show (dat2 W d).Φ t.succ = (dat2 W d).Φ t.castSucc from rfl, show (dat2 W d).owesAt none t.succ = (dat2 W d).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (edge_owns d (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) (st2_9 t) (hstage2_9 ((cfg2.slots t 9).cast nbuf2_9)) (st2_10 t) (hstage2_10 ((cfg2.slots t 10).cast nbuf2_10)) (st2_11 t) (hstage2_11 ((cfg2.slots t 11).cast nbuf2_11)) (st2_12 t) (hstage2_12 ((cfg2.slots t 12).cast nbuf2_12)) (blk2 W d 0 t) (blk2 W d 1 t) (blk2 W d 2 t) (blk2 W d 3 t) (blk2 W d 4 t) (blk2 W d 5 t) (blk2 W d 6 t) (blk2 W d 7 t) (blk2 W d 8 t) (blk2 W d 9 t) (blk2 W d 10 t) (blk2 W d 11 t) ((dat2 W d).before 12 t d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.Proof

end
-- ==== Proof.Regs.lean ====
/-
  The two TensorCore calls as regions of @main: the atoms' before the SparseCore call, the edges' after it.
-/
module

public import proofs.«01_k».proof.Proof.Data

@[expose] public section

noncomputable section

namespace Cert.Proof

open Cert.KernelIdeal Cert.KernelIdeal.Gen

open Idealize.ShloMosaic
open Idealize.ShloMosaic.TcCoe
open Idealize.ShloMosaic.SparseCore.Cfg (HIx Pay WBelow)
open Idealize.ShloMosaic.Pipeline (Dat pin BodyObligation RegionSeg LaunchFacts ucRefs arrRef arrRefs afterRegion)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (W : Dev nD → Valuation τ sig (Elt F))

/-- A pipeline the entry does not run: anything. -/
def noDat {cfg : Pipeline.Cfg sig Λ₀} (d : Dev nD) : Dat τ (Elt F) (HIx 1) ℕ UU ℕ cfg d where
  A _ := fun _ => Classical.arbitrary _
  after _ _ := fun _ => Classical.arbitrary _
  Φ _ := BI.emp
  q _ := fullShare
  owed _ := 0

def pdats0 : (p : Fin 2) → (c : Dev nD) → Dat τ (Elt F) (HIx 1) ℕ UU ℕ (pin (pcfgs (F := F)) adm p) c
  | ⟨0, _⟩ => fun c => dat0 W c
  | ⟨1, _⟩ => fun c => noDat c
def pdats2 : (p : Fin 2) → (c : Dev nD) → Dat τ (Elt F) (HIx 1) ℕ UU ℕ (pin (pcfgs (F := F)) adm p) c
  | ⟨0, _⟩ => fun c => noDat c
  | ⟨1, _⟩ => fun c => dat2 W c

/-- The atoms' call, before the SparseCore call. -/
def reg0 : RegionSeg (pcfgs (F := F)) adm (pdats0 W) none defs₀ 𝒱₀ (K (F := F)).L (K (F := F)).lev 0 :=
  region 0 (pdats0 W) 0 (launch0).toP (fun c => body0 W c) (fun _ _ => rfl) (fun _ _ => rfl) (fun _ _ => rfl)
    (fun c w => (dat0 W c).share_full (fun _ => rfl) w) W (fun _ _ => rfl)
theorem pin_1 : pin (pcfgs (F := F)) adm 1 = cfg2 := rfl
theorem owed2 (c : Dev nD) (t) : (pdats2 W 1 c).owed t = (K (F := F)).Otc c 1 := rfl
theorem rec2 (c : Dev nD) (t) : (pdats2 W 1 c).recorded t = recs (F := F) 1 c := rfl
theorem Φ2 (c : Dev nD) (t) : (pdats2 W 1 c).Φ t = Pipeline.scopedRest spec2 c := rfl
theorem Φ2' (c : Dev nD)  : (Pipeline.scopedRest spec2 c : sProp 𝕄) = Pipeline.scopedRest (pin (pcfgs (F := F)) adm 1).spec c := rfl
theorem hW2 (c : Dev nD) (w) : (pdats2 W 1 c).arrAt w 0 = W c (Proc.devRef .tc (arrRef (pin (pcfgs (F := F)) adm 1).spec w)) := rfl
theorem sh2 (c : Dev nD) (w) : (pdats2 W 1 c).share w = fullShare := (dat2 W c).share_full (fun _ => rfl) w
/-- The edges' call, after it. -/
def reg2 : RegionSeg (pcfgs (F := F)) adm (pdats2 W) none defs₀ 𝒱₀ (K (F := F)).L (K (F := F)).lev 1 :=
  region 1 (pdats2 W) 1 (launch2).toP (fun c => body2 W c) (owed2 W) (rec2 W) (fun c t => (Φ2 W c t).trans (Φ2' c))
    (sh2 W) W (hW2 W)

end Cert.Proof

end
-- ==== Proof.Tile.lean ====
/-
  One tile of the gather: it fetches its 6144 words of the neighbour list, gathers the rows they name out of the
  atoms table, and writes them to its block of the result. The contents are carried throughout: the block ends at
  the rows of the table the list names.
-/
module

public import proofs.«01_k».proof.Proof.Setup
public import Idealize.ShloMosaic.Lib.Pointwise.Index
public import Idealize.ShloMosaic.Lib.Writes

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What is gathered -/

/-- The rows of the table that the list names, one after another. -/
def rowsOf {α : Type} (A : S4096x16.Idx → α) (E : S196608.Idx → BitVec 32) : S196608x16.Idx → α :=
  fun j => A (ix2 ⟨(E (ix1 (j 0))).toNat % 4096, Nat.mod_lt _ (by decide)⟩ (j 1))

/-- The contents of the table and of the neighbour list when the SparseCore call starts, and of the result before it. -/
structure Tables (F : FTy → Type) where
  A : S4096x16.Idx → F .f32
  E : S196608.Idx → BitVec 32
  O : S196608x16.Idx → F .f32

variable (t : Dev nD → Tables F)

abbrev iPart (d : Dev nD) (w : Fin 32) : sProp 𝕄 := iLoc d ↦[(irow w).set]{fullShare} (t d).E
abbrev xPart (d : Dev nD) (w : Fin 32) : sProp 𝕄 := xLoc d ↦{xq w} (t d).A
abbrev oPart (d : Dev nD) (w : Fin 32) (f : S196608x16.Idx → F .f32) : sProp 𝕄 := oLoc d ↦[(orow w).set]{fullShare} f

/-- What tile `w` is given and what it brings back: its block of the list, its share of the table, its block of the
    result — before and after. -/
abbrev goPart (d : Dev nD) (w : Fin 32) : sProp 𝕄 := iprop(iPart t d w ∗ xPart t d w ∗ oPart d w (t d).O)
abbrev donePart (d : Dev nD) (w : Fin 32) : sProp 𝕄 := iprop(iPart t d w ∗ xPart t d w ∗ oPart d w (rowsOf (t d).A (t d).E))

/-- What the handshakes of the one SparseCore call carry. -/
def P : (K (F := F)).Pay (nD := nD) (Val := Elt F) (Name := ℕ) (U := UU) where
  st := fun q d c => match q with | 0 => bigSep Finset.univ fun s : Fin 16 => goPart t d (wid (Fin.cast nCore_zero c) s)
  dn := fun q d c => match q with | 0 => bigSep Finset.univ fun s : Fin 16 => donePart t d (wid (Fin.cast nCore_zero c) s)
  go := fun q d c i => match q with | 0 => goPart t d (wid (Fin.cast nCore_zero c) (Fin.cast nSub_zero i))
  td := fun q d c i => match q with | 0 => donePart t d (wid (Fin.cast nCore_zero c) (Fin.cast nSub_zero i))
  x := fun _ _ => iprop(emp)

instance P_storable : (P (F := F) t).IsStorable where
  st q d c := match q with
    | 0 => (inferInstance : BI.Storable (upEmb : UEmb _ 𝕄) (bigSep Finset.univ fun s : Fin 16 => goPart t d (wid (Fin.cast nCore_zero c) s)))
  dn q d c := match q with
    | 0 => (inferInstance : BI.Storable (upEmb : UEmb _ 𝕄) (bigSep Finset.univ fun s : Fin 16 => donePart t d (wid (Fin.cast nCore_zero c) s)))
  go q d c i := match q with
    | 0 => (inferInstance : BI.Storable (upEmb : UEmb _ 𝕄) (goPart t d (wid (Fin.cast nCore_zero c) (Fin.cast nSub_zero i))))
  td q d c i := match q with
    | 0 => (inferInstance : BI.Storable (upEmb : UEmb _ 𝕄) (donePart t d (wid (Fin.cast nCore_zero c) (Fin.cast nSub_zero i))))

/-- Every word of the list names a row of the table. -/
def InRange : Prop := ∀ (d : Dev nD) (j : S196608.Idx), ((t d).E j).toNat < 4096

/-! ## The tile's buffers and cells -/

section Tile

variable [FloatOps F]
variable (d : Dev nD) (L : grid1.Coords)

abbrev cV (L : grid1.Coords) : Fin τ.nSC := (L 0).castLE hcore1
abbrev jV (L : grid1.Coords) : Fin τ.nSub := (L 1).castLE hsub1
/-- The block of the tile at grid point `L`. -/
abbrev wL (L : grid1.Coords) : Fin 32 := wid (Fin.cast (rfl : grid1.bound 0 = 2) (L 0)) (Fin.cast (rfl : grid1.bound 1 = 16) (L 1))

abbrev iV : Memref sig .scVector .hbm S196608 .i32 := Memref.whole main_v4_scv
abbrev xV : Memref sig .scVector .hbm S4096x16 .f32 := Memref.whole main_v3_scv
abbrev oV : Memref sig .scVector .hbm S196608x16 .f32 := Memref.whole main_v5_scv
abbrev sV : Memref sig .scVector .vmem S6144 .i32 := Memref.whole cc1_scratch0
abbrev rV : Memref sig .scVector .vmem S6144x16 .f32 := Memref.whole cc1_scratch1

abbrev irowK (L : grid1.Coords) : Rect S196608 := Rect.unit (s := S196608) (k1_off1 L) S6144.size (k1_off1_inb L)
abbrev orowK (L : grid1.Coords) : Rect S196608x16 := Rect.unit (s := S196608x16) (k1_off2 L) S6144x16.size (k1_off2_inb L)
abbrev iRowK (L : grid1.Coords) : Memref sig .scVector .hbm S6144 .i32 := (iV).slice (irowK L) (fun _ => rfl)
abbrev oRowK (L : grid1.Coords) : Memref sig .scVector .hbm S6144x16 .f32 := (oV).slice (orowK L) (fun _ => rfl)
abbrev xAllK : Memref sig .scVector .hbm S4096x16 .f32 := (xV).slice (Rect.unit (s := S4096x16) ![0, 0] S4096x16.size inb_S4096x16_S4096x16_0_0) (fun _ => rfl)

omit [FloatOps F] in
theorem wL_val : (wL L).val = 2 * (L 1).val + (L 0).val := rfl
omit [FloatOps F] in
theorem irowK_eq : irowK L = irow (wL L) := by
  unfold irowK irow Rect.part Rect.block
  congr 1 <;> funext a
  · have h := wL_val L
    rw [k1_off1_eq]
    match a with
    | 0 => simp [Shape.partIx, Shape.partSize]; omega
  · match a with
    | 0 => simp [Shape.partSize]
omit [FloatOps F] in
theorem orowK_eq : orowK L = orow (wL L) := by
  unfold orowK orow Rect.part Rect.block
  congr 1 <;> funext a
  · have h := wL_val L
    rw [k1_off2_eq]
    match a with
    | 0 => simp [Shape.partIx, Shape.partSize]; omega
    | 1 => simp [Shape.partIx, Shape.partSize]
  · match a with
    | 0 => simp [Shape.partSize]
    | 1 => simp [Shape.partSize]

omit [FloatOps F] in
theorem set_iRowK : (iRowK L).view.set = (irow (wL L)).set := by
  show ((View.whole (main_v4_scv : Ref sig .scVector)).slice (irowK L)).set = _
  rw [View.set_slice, irowK_eq]; exact Finset.map_refl
omit [FloatOps F] in
theorem set_oRowK : (oRowK L).view.set = (orow (wL L)).set := by
  show ((View.whole (main_v5_scv : Ref sig .scVector)).slice (orowK L)).set = _
  rw [View.set_slice, orowK_eq]; exact Finset.map_refl

omit [FloatOps F] in
theorem pts_iRowK (f : Buf (Elt F) (iLoc d)) :
    ((iRowK L).view.loc (V d (cV L) (jV L)) ↦[(iRowK L).view.set]{fullShare} f : sProp 𝕄) = iLoc d ↦[(irow (wL L)).set]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[(orow (wL L)).set]{fullShare} f := by
  rw [set_oRowK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit [FloatOps F] in
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

omit [FloatOps F] in
/-- The three transfers' cells are among the tile's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

omit [FloatOps F] in
/-- The two scratch buffers are among the tile's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- What the first copy lands in the tile's list scratch: its block of the list, in range. -/
theorem inb_of_range (hE : InRange t) (fs : Buf (Elt F) ((V d (cV L) (jV L)).loc cc1_scratch0)) (pay : S6144.Idx → Elt F .i32)
    (hpay : pay = (iRowK L).view.read (Elt F) (t d).E) :
    ∀ x, ((sV).view.read (Elt F) (View.write (Elt F) (sV).view fs pay Finset.univ) x).toNat < S4096x16.size gathers_S4096x16_S6144x16.axis := by
  subst hpay; intro x
  rw [View.write_whole_univ]
  simp only [Memref.view_whole, View.read_whole]
  rw [show ∀ j, (iRowK L).view.read (Elt F) (t d).E j = (t d).E ((iRowK L).view.emb j) from fun j => (View.read_apply _ _).trans (cast_eq _ _)]
  exact hE d _

omit [FloatOps F] in
/-- The bytes of a gather are the bytes of its rows. -/
theorem gather_bytes (h : S4096x16.Gathers 0 S6144x16) :
    ∑ j, ((rV).slice (S6144x16.rowRect h.axis' j) (S6144x16.stride_rowRect h.axis' j)).view.dmaCredit = (rV).view.dmaCredit := by
  have e : ∀ j, ((rV).slice (S6144x16.rowRect h.axis' j) (S6144x16.stride_rowRect h.axis' j)).view.dmaCredit
      = ((rV).slice (S6144x16.rowRect h.axis' (⟨0, by decide⟩ : Fin 6144)) (S6144x16.stride_rowRect h.axis' (⟨0, by decide⟩ : Fin 6144))).view.dmaCredit := fun j => rfl
  rw [Finset.sum_congr rfl fun j _ => e j, Finset.sum_const, Finset.card_univ, Fintype.card_fin]
  clear e
  revert h
  decide +kernel

omit [FloatOps F] in
theorem iRowK_emb (x : S6144.Idx) : ((((iRowK L).view.emb x : S196608.Idx) 0).val : ℕ) = 6144 * (wL L).val + (x 0).val := by
  have h : ((((iRowK L).view.emb x : S196608.Idx) 0).val : ℕ) = k1_off1 L 0 + 1 * (x 0).val := rfl
  rw [h, k1_off1_eq, wL_val]; simp; omega

omit [FloatOps F] in
theorem oRowK_emb_0 (x : S6144x16.Idx) : ((((oRowK L).view.emb x : S196608x16.Idx) 0).val : ℕ) = 6144 * (wL L).val + (x 0).val := by
  have h : ((((oRowK L).view.emb x : S196608x16.Idx) 0).val : ℕ) = k1_off2 L 0 + 1 * (x 0).val := rfl
  rw [h, k1_off2_eq, wL_val]; simp; omega
omit [FloatOps F] in
theorem oRowK_emb_1 (x : S6144x16.Idx) : ((((oRowK L).view.emb x : S196608x16.Idx) 1).val : ℕ) = (x 1).val := by
  have h : ((((oRowK L).view.emb x : S196608x16.Idx) 1).val : ℕ) = k1_off2 L 1 + 1 * (x 1).val := rfl
  rw [h, k1_off2_eq]; simp

omit [FloatOps F] in
/-- The whole table read through the slice that takes all of it. -/
theorem xAllK_read (A : S4096x16.Idx → F .f32) : (xAllK).view.read (Elt F) A = A := by
  funext i
  rw [View.read_apply]
  show A _ = A _
  refine congrArg A ?_
  rw [eq_ix2 ((xAllK).view.emb i), eq_ix2 i]
  congr 1 <;> refine Fin.ext ?_
  · show 0 + 1 * (i 0).val = (i 0).val; omega
  · show 0 + 1 * (i 1).val = (i 1).val; omega

omit [FloatOps F] in
/-- What the last copy leaves in the tile's block: the rows of the table that its block of the list names. -/
theorem gathered_eq (fs : Buf (Elt F) ((V d (cV L) (jV L)).loc cc1_scratch0)) (fr : Buf (Elt F) ((V d (cV L) (jV L)).loc cc1_scratch1))
    (hn : S6144.numel = S6144x16.size gathers_S4096x16_S6144x16.axis')
    (hin : ∀ x, ((sV).view.read (Elt F) (View.write (Elt F) (sV).view fs ((iRowK L).view.read (Elt F) (t d).E) Finset.univ) x).toNat
      < S4096x16.size gathers_S4096x16_S6144x16.axis)
    (pay : S6144x16.Idx → Elt F .f32)
    (hpay : pay = (rV).view.read (Elt F) (View.write (Elt F) (rV).view fr
      (SparseCore.gatherPayload gathers_S4096x16_S6144x16 ((xAllK).view.read (Elt F) (t d).A)
        (SparseCore.rows ((sV).view.read (Elt F) (View.write (Elt F) (sV).view fs ((iRowK L).view.read (Elt F) (t d).E) Finset.univ)) hn hin)) Finset.univ)) :
    ∀ x ∈ (oRowK L).view.set, (oRowK L).view.writes (Elt F) (t d).O [⟨Rect.whole S6144x16, pay⟩] x = rowsOf (t d).A (t d).E x := by
  intro x hx
  obtain ⟨y, -, rfl⟩ := Finset.mem_map.mp hx
  have hw : (oRowK L).view.writes (Elt F) (t d).O [⟨Rect.whole S6144x16, pay⟩] ((oRowK L).view.emb y) = pay y := by
    have h := View.read_writes_cons_emb (v := (oRowK L).view) (f := (t d).O) (Rect.whole S6144x16) pay [] y
    exact ((View.read_apply _ _).trans (cast_eq _ _)).symm.trans ((congrArg _ (Rect.emb_whole_apply S6144x16 y).symm).trans h)
  rw [hw]
  have hp : ∀ z, pay z = (t d).A (gathers_S4096x16_S6144x16.idx
      (SparseCore.rows ((sV).view.read (Elt F) (View.write (Elt F) (sV).view fs ((iRowK L).view.read (Elt F) (t d).E) Finset.univ)) hn hin) z) := by
    intro z
    rw [hpay, View.write_whole_univ]
    show (xAllK).view.read (Elt F) (t d).A _ = _
    rw [xAllK_read]
    rfl
  rw [hp]
  unfold rowsOf
  refine congrArg (t d).A ?_
  refine (eq_ix2 (n0 := 4096) (n1 := 16) _).trans (congrArg₂ ix2 ?_ ?_)
  · rw [show (Shape.Gathers.idx gathers_S4096x16_S6144x16 (SparseCore.rows ((sV).view.read (Elt F) (View.write (Elt F) (sV).view fs
        ((iRowK L).view.read (Elt F) (t d).E) Finset.univ)) hn hin) y) 0
      = SparseCore.rows ((sV).view.read (Elt F) (View.write (Elt F) (sV).view fs ((iRowK L).view.read (Elt F) (t d).E) Finset.univ)) hn hin (y 0)
      from Shape.Gathers.idx_axis _ _ _]
    have hk : ∀ k : Fin S6144.numel, (iRowK L).view.emb (S6144.rowMajor.symm k) = ix1 (⟨6144 * (wL L).val + k.val, by
        have := k.isLt; have e : S6144.numel = 6144 := rfl; have := (wL L).isLt; omega⟩ : Fin 196608) := by
      intro k
      rw [eq_ix1 ((iRowK L).view.emb (S6144.rowMajor.symm k))]
      refine congrArg ix1 (Fin.ext ?_)
      rw [iRowK_emb, ← Shape.rowMajor_val_one, Equiv.apply_symm_apply]
    have hr : ∀ x, (sV).view.read (Elt F) (View.write (Elt F) (sV).view fs ((iRowK L).view.read (Elt F) (t d).E) Finset.univ) x
        = (t d).E ((iRowK L).view.emb x) := by
      intro x
      rw [View.write_whole_univ]; rfl
    refine Fin.ext ?_
    unfold SparseCore.rows
    simp only [hr, hk]
    have hlt := hin (S6144.rowMajor.symm ((y 0).cast hn.symm))
    rw [hr, hk] at hlt
    have ei : (ix1 ((oRowK L).view.emb y 0) : S196608.Idx) = ix1 (⟨6144 * (wL L).val + (y 0).val, by
        have := (y 0).isLt; have e : S6144x16.size 0 = 6144 := rfl; have := (wL L).isLt; omega⟩ : Fin 196608) :=
      congrArg ix1 (Fin.ext (oRowK_emb_0 L y))
    have hm : ((t d).E (ix1 ((oRowK L).view.emb y 0))).toNat % 4096 = ((t d).E (ix1 ((oRowK L).view.emb y 0))).toNat := by
      refine Nat.mod_eq_of_lt ?_
      rw [ei]; exact hlt
    exact (hm.trans (congrArg (fun z => ((t d).E z).toNat) ei)).symm
  · refine Fin.ext ?_
    rw [oRowK_emb_1]
    exact Shape.Gathers.idx_of_ne _ _ _ 1 (by decide)

set_option maxHeartbeats 4000000 in
/-- The task of the tile at grid point `L`. -/
theorem tile_body (hF : (K (F := F)).Facts) (hE : InRange t) (O : CellTallies nD τ sig (HIx 1)) (W : Waits sig (HIx 1)) (hO : ∀ g, O g none = 0) :
    iprop(levAts (K (F := F)).L (K (F := F)).lev ∗ emp
        ∗ goPart t d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L xV (Memref.isWhole_whole _) iV (Memref.isWhole_whole _) oV (Memref.isWhole_whole _)
            sV (Memref.isWhole_whole _) rV (Memref.isWhole_whole _) cc1_scratch2 cc1_scoped0 cc1_scoped1)
          fun _ => iprop(donePart t d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  ihave Hxs := (pointsTo_split_subset (ℓ := xLoc d) (q := xq (wL L)) (f := (t d).A) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 t d L) Finset.univ : sProp 𝕄)
      = (sV).view.loc (V d (cV L) (jV L)) ↦[(sV).view.set]{fullShare} View.write (Elt F) (sV).view fs (tile_body.sl.dma0 t d L) Finset.univ
      by rw [hss])) $$ Hs'
  iapply (SparseCore.wp_indirectGatherLocal countersEmb 𝒱₀ (V d (cV L) (jV L)) none (hg := gathers_S4096x16_S6144x16) (default : HIx 1)
      (rV).view.dmaCredit (gather_bytes _) (by decide) (inb_of_range t d L hE fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, HsemB, HO⟩
  ihave Hx' := (pointsTo_split_subset (ℓ := xLoc d) (q := xq (wL L)) (f := (t d).A) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iapply (Entails.of_eq (pts_iRowK (F := F) d L _)); iexact Hi'
    isplitl [Hx']; · iexact Hx'
    iapply (Entails.of_eq (pts_oRowK (F := F) d L _))
    iapply (Entails.of_eq (pointsTo_congr (gathered_eq t d L fs fr _ _ _ rfl)))
    iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation of the launch -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s)
          xV (Memref.isWhole_whole _) iV (Memref.isWhole_whole _) oV (Memref.isWhole_whole _)
          sV (Memref.isWhole_whole _) rV (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task, as the launch asks for it. -/
theorem tileObl (hF : (K (F := F)).Facts) (hE : InRange t) : (K (F := F)).TileObl (D (F := F)) 𝒱 (P t) v₀ 0 := by
  intro d c i O W hO _ _
  simp only [show (P t).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body t d (coordsV ⟨_, hci.1⟩ ⟨_, hci.2⟩) hF hE O W hO).trans (wp_mono frame _ _ fun _ => obl_post)

end Tile

end Cert.Proof

end
-- ==== Proof.Host.lean ====
/-
  @main's host operations, and what every buffer holds at each point of it: the valuations `V1` … `V7`, one after
  another, from the launch memory.
-/
module

public import proofs.«01_k».proof.Proof.Regs
public import proofs.«01_k».proof.Proof.Tile

@[expose] public section

noncomputable section

namespace Cert.Proof

open Cert.KernelIdeal Cert.KernelIdeal.Gen

open Idealize.ShloMosaic
open Idealize.ShloMosaic.TcCoe
open Idealize.ShloMosaic.SparseCore.Cfg (HIx Pay WBelow)
open Idealize.ShloMosaic.StableHlo (held seq after)
open Idealize.ShloMosaic.Pipeline (Dat pin BodyObligation RegionSeg LaunchFacts ucRefs arrRef arrRefs afterRegion)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The host's operations before the atoms' call. -/
def opsA : List (HloOp τ sig (Elt F)) :=
  [StableHlo.nullary main_cst (fun i => FloatOps.ofBits .f32 (lit0 (S16x75.rowMajor i))),
   StableHlo.nullary main_cst_0 (fun i => FloatOps.ofBits .f32 (lit1 (S16x75.rowMajor i))),
   StableHlo.nullary main_cst_1 (fun i => FloatOps.ofBits .f32 (lit2 (S75x25.rowMajor i))),
   StableHlo.nullary main_cst_2 (fun i => FloatOps.ofBits .f32 (lit3 (S25x400.rowMajor i))),
   StableHlo.reshape main_arg0 main_v0 (rfl : (.f32 : EltTy) = .f32) shapeCasts_S4x1024x4x3_S4096x12,
   StableHlo.unary main_arg1 main_v1 (sitofp .f32 : (⟨S4x1024, .i32⟩ : BufTy).Contents (Elt F) → (⟨S4x1024, .f32⟩ : BufTy).Contents (Elt F)),
   StableHlo.reshape main_v1 main_v2 (rfl : (.f32 : EltTy) = .f32) shapeCasts_S4x1024_S4096x1]

/-- Between the atoms' call and the SparseCore call. -/
def opsB : List (HloOp τ sig (Elt F)) :=
  [StableHlo.reshape main_arg2 main_v4 (rfl : (.i32 : EltTy) = .i32) shapeCasts_S4096x48_S196608]

/-- Between the SparseCore call and the edges' call. -/
def opsC : List (HloOp τ sig (Elt F)) :=
  [StableHlo.unary main_arg3 main_v6 ((transpose S66x16 [1, 0] · transposes_S16x66_S66x16_1_0) : (⟨S16x66, .f32⟩ : BufTy).Contents (Elt F) → (⟨S66x16, .f32⟩ : BufTy).Contents (Elt F)),
   StableHlo.reshape main_arg4 main_v7 (rfl : (.f32 : EltTy) = .f32) shapeCasts_S16_S1x16,
   StableHlo.nullary main_cst_3 (constant S_ .f32 0x40000000#32),
   StableHlo.nullary main_cst_4 (constant S_ .f32 0x41B00000#32),
   StableHlo.TRef.unary (.of main_cst_3 : StableHlo.TRef sig ⟨S_, .f32⟩) main_call0.v0 id,
   StableHlo.TRef.unary (.of main_cst_4 : StableHlo.TRef sig ⟨S_, .f32⟩) main_call0.v1 id,
   StableHlo.TRef.binary main_call0.v1 main_call0.v0 main_call0.v2 subf,
   StableHlo.TRef.nullary main_call0.cst (constant S_ .f32 0x41700000#32),
   StableHlo.TRef.binary main_call0.v2 main_call0.cst main_call0.v3 Host.divf,
   StableHlo.TRef.nullary main_call0.v4 (sitofp .f32 (iotaInDim S15 32 0)),
   StableHlo.TRef.nullary main_call0.cst_0 (constant S_ .f32 0x41700000#32),
   StableHlo.TRef.unary main_call0.cst_0 main_call0.v5 (broadcastInDim S15 ![] bcast_S_S15),
   StableHlo.TRef.binary main_call0.v4 main_call0.v5 main_call0.v6 Host.divf,
   StableHlo.TRef.reshape main_call0.v0 main_call0.v7 (rfl : (.f32 : EltTy) = .f32) shapeCasts_S_S1,
   StableHlo.TRef.nullary main_call0.cst_1 (constant S_ .f32 0x3F800000#32),
   StableHlo.TRef.unary main_call0.cst_1 main_call0.v8 (broadcastInDim S15 ![] bcast_S_S15),
   StableHlo.TRef.binary main_call0.v8 main_call0.v6 main_call0.v9 subf,
   StableHlo.TRef.unary main_call0.v7 main_call0.v10 (broadcastInDim S15 ![0] bcast_S1_S15_0),
   StableHlo.TRef.binary main_call0.v10 main_call0.v9 main_call0.v11 mulf,
   StableHlo.TRef.reshape main_call0.v1 main_call0.v12 (rfl : (.f32 : EltTy) = .f32) shapeCasts_S_S1,
   StableHlo.TRef.unary main_call0.v12 main_call0.v13 (broadcastInDim S15 ![0] bcast_S1_S15_0),
   StableHlo.TRef.binary main_call0.v13 main_call0.v6 main_call0.v14 mulf,
   StableHlo.TRef.binary main_call0.v11 main_call0.v14 main_call0.v15 addf,
   StableHlo.TRef.unary main_call0.v1 main_call0.v16 (broadcastInDim S1 ![] bcast_S_S1),
   StableHlo.TRef.binary main_call0.v15 main_call0.v16 main_call0.v17 (fun a b => concatenate S16 0 [⟨S15, a⟩, ⟨S1, b⟩] concatenates_S15_S1_S16_d0),
   StableHlo.reshape main_v8 main_v9 (rfl : (.f32 : EltTy) = .f32) shapeCasts_S16_S1x16,
   StableHlo.unary main_v9 main_v10 (broadcastInDim S25x16 ![0, 1] bcast_S1x16_S25x16_0_1 : (⟨S1x16, .f32⟩ : BufTy).Contents (Elt F) → (⟨S25x16, .f32⟩ : BufTy).Contents (Elt F)),
   StableHlo.reshape main_v10 main_v11 (rfl : (.f32 : EltTy) = .f32) shapeCasts_S25x16_S400,
   StableHlo.reshape main_v11 main_v12 (rfl : (.f32 : EltTy) = .f32) shapeCasts_S400_S1x400,
   StableHlo.unary main_arg5 main_v13 ((transpose S416x128 [1, 0] · transposes_S128x416_S416x128_1_0) : (⟨S128x416, .f32⟩ : BufTy).Contents (Elt F) → (⟨S416x128, .f32⟩ : BufTy).Contents (Elt F)),
   StableHlo.reshape main_arg6 main_v14 (rfl : (.f32 : EltTy) = .f32) shapeCasts_S128_S1x128,
   StableHlo.reshape main_arg7 main_v15 (rfl : (.f32 : EltTy) = .f32) shapeCasts_S128_S1x128]

/-- After the edges' call. -/
def opsD : List (HloOp τ sig (Elt F)) :=
  [StableHlo.reshape main_v16 main_v17 (rfl : (.f32 : EltTy) = .f32) shapeCasts_S196608x128_S4x1024x48x128]

/-- @main is these operations around the three calls. -/
theorem main_eq (d : Dev nD) : main (F := F) d =
    (seq opsA >>= fun _ => Prog.lift (.customCall (SparseCore.inner (Pipeline.entry 0)) ()) >>= fun _ =>
      seq opsB >>= fun _ => (K (F := F)).run d 0 >>= fun _ => seq opsC >>= fun _ =>
      Prog.lift (.customCall (SparseCore.inner (Pipeline.entry 1)) ()) >>= fun _ => seq opsD) := by
  simp only [main, fn_linspace.body, opsA, opsB, opsC, opsD, seq, bind_assoc, pure_bind]

theorem opsA_bufs : ∀ op ∈ (opsA : List (HloOp τ sig (Elt F))), op.bufs ⊆ ucRefs τ sig := by
  refine fun op h => Pipeline.sub_ucRefs op ?_
  revert op
  simp [opsA]
theorem opsA_fresh : ∀ op ∈ (opsA : List (HloOp τ sig (Elt F))), op.fresh = ∅ := by
  refine List.forall_iff_forall_mem.mp ?_
  unfold opsA
  repeat' first | exact rfl | constructor

theorem opsB_bufs : ∀ op ∈ (opsB : List (HloOp τ sig (Elt F))), op.bufs ⊆ ucRefs τ sig := by
  refine fun op h => Pipeline.sub_ucRefs op ?_
  revert op
  simp [opsB]
theorem opsB_fresh : ∀ op ∈ (opsB : List (HloOp τ sig (Elt F))), op.fresh = ∅ := by
  refine List.forall_iff_forall_mem.mp ?_
  unfold opsB
  repeat' first | exact rfl | constructor

theorem opsC_bufs : ∀ op ∈ (opsC : List (HloOp τ sig (Elt F))), op.bufs ⊆ ucRefs τ sig := by
  refine fun op h => Pipeline.sub_ucRefs op ?_
  revert op
  simp [opsC, StableHlo.TRef.nullary, StableHlo.TRef.unary, StableHlo.TRef.binary, StableHlo.TRef.ternary]
theorem opsC_fresh : ∀ op ∈ (opsC : List (HloOp τ sig (Elt F))), op.fresh = ∅ := by
  refine List.forall_iff_forall_mem.mp ?_
  unfold opsC
  repeat' first | exact rfl | constructor

theorem opsD_bufs : ∀ op ∈ (opsD : List (HloOp τ sig (Elt F))), op.bufs ⊆ ucRefs τ sig := by
  refine fun op h => Pipeline.sub_ucRefs op ?_
  revert op
  simp [opsD]
theorem opsD_fresh : ∀ op ∈ (opsD : List (HloOp τ sig (Elt F))), op.fresh = ∅ := by
  refine List.forall_iff_forall_mem.mp ?_
  unfold opsD
  repeat' first | exact rfl | constructor

end Cert.Proof

end
-- ==== Proof.Main.lean ====
/-
  @main on a device's TensorCore: the host operations, the atoms' call, the SparseCore call and the edges' call, one
  after another, with what every buffer holds at each point (`V1` … `V7`, from the launch memory).
-/
module

public import proofs.«01_k».proof.Proof.Host

@[expose] public section

noncomputable section

namespace Cert.Proof

open Cert.KernelIdeal Cert.KernelIdeal.Gen

open Idealize.ShloMosaic
open Idealize.ShloMosaic.TcCoe
open Idealize.ShloMosaic.SparseCore.Cfg (HIx Pay WBelow)
open Idealize.ShloMosaic.StableHlo (held seq after)
open Idealize.ShloMosaic.Pipeline (Dat pin BodyObligation RegionSeg LaunchFacts ucRefs arrRef arrRefs afterRegion)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The contents at each point -/

/-- After the operations before the atoms' call, and after that call. -/
def V1 (d : Dev nD) : Valuation τ sig (Elt F) := after opsA fun b => m (d, b)
def V2 (d : Dev nD) : Valuation τ sig (Elt F) := afterRegion (pdats0 (V1 m) 0 d) (V1 m d)
/-- When the SparseCore call starts. -/
def V3 (d : Dev nD) : Valuation τ sig (Elt F) := after opsB (V2 m d)
/-- The table, the neighbour list and the result's buffer then. -/
def tabs (d : Dev nD) : Tables F where
  A := V3 m d (Proc.devRef .tc main_v3)
  E := V3 m d (Proc.devRef .tc main_v4)
  O := V3 m d (Proc.devRef .tc main_v5)
/-- After it: the result's buffer holds the rows the list names. -/
def V4 (d : Dev nD) : Valuation τ sig (Elt F) :=
  Function.update (V3 m d) (Proc.devRef .tc main_v5) (rowsOf (tabs m d).A (tabs m d).E)
/-- When the edges' call starts, after it, and at the end. -/
def V5 (d : Dev nD) : Valuation τ sig (Elt F) := after opsC (V4 m d)
def V6 (d : Dev nD) : Valuation τ sig (Elt F) := afterRegion (pdats2 (V5 m) 1 d) (V5 m d)
def V7 (d : Dev nD) : Valuation τ sig (Elt F) := after opsD (V6 m d)

/-! ## The SparseCore call's three buffers among the rest -/

/-- The table, the list and the result, as a set of buffers. -/
def scRefs : Finset (DevRef τ sig) := {Proc.devRef .tc main_v3, Proc.devRef .tc main_v4, Proc.devRef .tc main_v5}

theorem scRefs_sub : scRefs ⊆ ucRefs τ sig := by
  intro b hb
  simp only [scRefs, Finset.mem_insert, Finset.mem_singleton] at hb
  rcases hb with rfl | rfl | rfl
  all_goals exact Finset.mem_filter.mpr ⟨Finset.mem_map.mpr ⟨_, Finset.mem_univ _, rfl⟩, fun h => Bool.false_ne_true h⟩

theorem held_scRefs (d : Dev nD) (V : Valuation τ sig (Elt F)) :
    (held (d.tc : Thread nD τ) scRefs V : sProp 𝕄)
      = iprop((xLoc d ↦{fullShare} V (Proc.devRef .tc main_v3)) ∗ (iLoc d ↦{fullShare} V (Proc.devRef .tc main_v4))
          ∗ oLoc d ↦{fullShare} V (Proc.devRef .tc main_v5)) := by
  unfold held scRefs
  rw [SparseCore.bigSep_insert' (by decide), SparseCore.bigSep_insert' (by decide), bigSep_singleton]

theorem st0_eq (t : Dev nD → Tables F) (d : Dev nD) :
    (bigSep Finset.univ fun c : Fin ((K (F := F)).nCore 0) => (P t).st 0 d c)
      = iprop((iLoc d ↦{fullShare} (t d).E) ∗ (xLoc d ↦{fullShare} (t d).A) ∗ (oLoc d ↦{fullShare} (t d).O) : sProp 𝕄) := by
  show (bigSep Finset.univ fun c : Fin 2 => bigSep Finset.univ fun s : Fin 16 => goPart t d (wid c s)) = _
  rw [← bigSep_wid (F := F) (fun w => goPart t d w), xPts_shares, iPts_rows, oPts_rows, bigSep_sep', bigSep_sep']

theorem dn0_eq (t : Dev nD → Tables F) (d : Dev nD) :
    (bigSep Finset.univ fun c : Fin ((K (F := F)).nCore 0) => (P t).dn 0 d c)
      = iprop((iLoc d ↦{fullShare} (t d).E) ∗ (xLoc d ↦{fullShare} (t d).A) ∗ (oLoc d ↦{fullShare} rowsOf (t d).A (t d).E) : sProp 𝕄) := by
  show (bigSep Finset.univ fun c : Fin 2 => bigSep Finset.univ fun s : Fin 16 => donePart t d (wid c s)) = _
  rw [← bigSep_wid (F := F) (fun w => donePart t d w), xPts_shares, iPts_rows, oPts_rows, bigSep_sep', bigSep_sep']

/-- Before the SparseCore call: the three buffers, and the rest. -/
theorem held_before (d : Dev nD) :
    (held (d.tc : Thread nD τ) (ucRefs τ sig) (V3 m d) : sProp 𝕄)
      = iprop(((xLoc d ↦{fullShare} (tabs m d).A) ∗ (iLoc d ↦{fullShare} (tabs m d).E) ∗ oLoc d ↦{fullShare} (tabs m d).O)
          ∗ held (d.tc : Thread nD τ) (ucRefs τ sig \ scRefs) (V3 m d)) := by
  rw [StableHlo.held_sub_split (c := (d.tc : Thread nD τ)) scRefs_sub, held_scRefs]
  rfl

/-- After it: the same, the result's buffer changed. -/
theorem held_after (d : Dev nD) :
    (held (d.tc : Thread nD τ) (ucRefs τ sig) (V4 m d) : sProp 𝕄)
      = iprop(((xLoc d ↦{fullShare} (tabs m d).A) ∗ (iLoc d ↦{fullShare} (tabs m d).E) ∗ oLoc d ↦{fullShare} rowsOf (tabs m d).A (tabs m d).E)
          ∗ held (d.tc : Thread nD τ) (ucRefs τ sig \ scRefs) (V3 m d)) := by
  rw [StableHlo.held_sub_split (c := (d.tc : Thread nD τ)) scRefs_sub, held_scRefs,
    StableHlo.held_congr (c := (d.tc : Thread nD τ)) (S := ucRefs τ sig \ scRefs) (V := V4 m d) (V' := V3 m d)]
  · have h3 : V4 m d (Proc.devRef .tc main_v3) = (tabs m d).A := Function.update_of_ne (by decide) _ _
    have h4 : V4 m d (Proc.devRef .tc main_v4) = (tabs m d).E := Function.update_of_ne (by decide) _ _
    have h5 : V4 m d (Proc.devRef .tc main_v5) = rowsOf (tabs m d).A (tabs m d).E := Function.update_self _ _ _
    rw [h3, h4, h5]
  · intro b hb
    refine Function.update_of_ne (fun h => (Finset.mem_sdiff.mp hb).2 ?_) _ _
    rw [h]; exact Finset.mem_insert_of_mem (Finset.mem_insert_of_mem (Finset.mem_singleton_self _))

/-! ## @main -/

/-- One call's part of the ghost state on device `d`: its cells and tokens. -/
abbrev Gh1 (p : Fin 2) (d : Dev nD) : sProp 𝕄 :=
  iprop(Pipeline.cellsGhost (pin (pcfgs (F := F)) adm) EP p d ∗ Pipeline.toksInit (pin (pcfgs (F := F)) adm) EP p d)
/-- Both calls'. -/
abbrev Gh (d : Dev nD) : sProp 𝕄 := iprop(Gh1 0 d ∗ Gh1 1 d)

/-- At the end every buffer holds `V7`. -/
abbrev FIN (d : Dev nD) : sProp 𝕄 := held (d.tc : Thread nD τ) (ucRefs τ sig) (V7 m d)

/-- A TensorCore call, as @main makes it: the boundary, the thread's state and the call's ghost state in, the boundary
    and the state after it out. -/
theorem wp_call [∀ e, Nonempty (Elt F e)] {p : Fin 2}
    {pdats : (p : Fin 2) → (c : Dev nD) → Dat τ (Elt F) (HIx 1) ℕ UU ℕ (pin (pcfgs (F := F)) adm p) c}
    (R : RegionSeg (pcfgs (F := F)) adm pdats none defs₀ 𝒱₀ (K (F := F)).L (K (F := F)).lev p) (d : Dev nD) (Φ : PUnit → sProp 𝕄) :
    iprop(((boundary (d.tc : Thread nD τ) ∗ R.post d) -∗ Φ ⟨⟩)
        ∗ boundary (d.tc : Thread nD τ) ∗ R.pre d ∗ levAts (K (F := F)).L (K (F := F)).lev ∗ Gh1 p d)
      ⊢ wp frame (wpE ((K (F := F)).defs (D (F := F))) 𝒱 (SparseCore.T d) none) Set.univ
          (Prog.lift (.customCall (SparseCore.inner (Pipeline.entry p)) ())) Φ := by
  refine BIBase.Entails.trans ?_ ((K (F := F)).wp_liftProg (D (F := F)) 𝒱 (SparseCore.T d) Set.univ none (Prog.lift (.customCall (Pipeline.entry p) ())) Φ)
  refine BIBase.Entails.trans ?_ (Pipeline.RegionSeg.wp (pcfgs (F := F)) adm pdats none ((launch0).toP.cellOf_inj adm) EP defs₀ 𝒱₀ (K (F := F)).L (K (F := F)).lev R d none
    (fun _ h => nomatch h) .ret Φ)
  iintro ⟨Hk, Hb, Hpre, Hlev, Hg, Ht⟩
  isplitl [Hk]
  · iintro H
    rw [wp_ret]
    imodintro
    iapply Hk; iexact H
  isplitl [Hb]; · iexact Hb
  isplitl [Hpre]; · iexact Hpre
  isplitl [Hlev]; · iexact Hlev
  isplitl [Hg] <;> iassumption

variable (ρ : Dev nD → PrngReg)

theorem hmain [∀ e, Nonempty (Elt F e)] (κ : GSem nD τ sig → ℕ) (d : Dev nD) :
    iprop((K (F := F)).ctx EH (P (tabs m)) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) (ucRefs τ sig) (fun b => m (d, b)) from
    Pipeline.unscopedBufs_held d (fun b => m (d, b)), main_eq]
  iintro ⟨#Hctx, Hst, ⟨Hb, Hbufs, Hts, -⟩, ⟨Hg0, Hg1⟩⟩
  ihave #Hlev := (SparseCore.Cfg.ctx_levAts κ) $$ Hctx
  -- the operations before the atoms' call, and the call
  iapply (StableHlo.wp_seq 𝒱 none Set.univ d (ucRefs τ sig) _ opsA opsA_bufs opsA_fresh (fun b => m (d, b))) $$ [Hb Hbufs]
  · isplitl [Hb]; · iexact Hb
    iexact Hbufs
  iintro ⟨Hb, Hbufs⟩
  rw [wp_bind]
  iapply (wp_call (reg0 (V1 m)) d)
  isplitr [Hb Hbufs Hst Hg0]
  rotate_left
  · isplitl [Hb]; · iexact Hb
    isplitl [Hbufs Hst]
    · iapply (show iprop(held (d.tc : Thread nD τ) (ucRefs τ sig) (V1 m d) ∗ (K (F := F)).tcSt EH d 0) ⊢ (reg0 (V1 m)).pre d from .rfl)
      isplitl [Hbufs]; · iexact Hbufs
      iexact Hst
    isplitr; · iexact Hlev
    iexact Hg0
  iintro ⟨Hb, H⟩
  ihave H' := (show (reg0 (V1 m)).post d ⊢ iprop(held (d.tc : Thread nD τ) (ucRefs τ sig) (V2 m d) ∗ (K (F := F)).tcSt EH d 0) from .rfl) $$ H
  icases H' with ⟨Hbufs, Hst⟩
  -- to the SparseCore call, and the call
  iapply (StableHlo.wp_seq 𝒱 none Set.univ d (ucRefs τ sig) _ opsB opsB_bufs opsB_fresh (V2 m d)) $$ [Hb Hbufs]
  · isplitl [Hb]; · iexact Hb
    iexact Hbufs
  iintro ⟨Hb, Hbufs⟩
  rw [wp_bind]
  rw [show after opsB (V2 m d) = V3 m d from rfl]
  ihave Hbufs := (Entails.of_eq (held_before m d)) $$ Hbufs
  icases Hbufs with ⟨⟨Hx, Hi, Ho⟩, Hrest⟩
  iapply ((K (F := F)).wp_run (D (F := F)) 𝒱 (EH := EH) (P := P (tabs m)) κ d 0)
  isplitr; · iexact Hctx
  isplitl [Hst]; · iexact Hst
  isplitl [Hx Hi Ho]
  · rw [st0_eq]
    isplitl [Hi]; · iexact Hi
    isplitl [Hx] <;> iassumption
  iintro ⟨Hst, Hdn⟩
  ihave Hdn' := (Entails.of_eq (dn0_eq (tabs m) d)) $$ Hdn
  ihave Hbufs := (Entails.of_eq (held_after m d).symm) $$ [Hdn' Hrest]
  · icases Hdn' with ⟨Hi, Hx, Ho⟩
    isplitr [Hrest]
    · isplitl [Hx]; · iexact Hx
      isplitl [Hi] <;> iassumption
    iexact Hrest
  -- to the edges' call, and the call
  iapply (StableHlo.wp_seq 𝒱 none Set.univ d (ucRefs τ sig) _ opsC opsC_bufs opsC_fresh (V4 m d)) $$ [Hb Hbufs]
  · isplitl [Hb]; · iexact Hb
    iexact Hbufs
  iintro ⟨Hb, Hbufs⟩
  rw [wp_bind]
  iapply (wp_call (reg2 (V5 m)) d)
  isplitr [Hb Hbufs Hst Hg1]
  rotate_left
  · isplitl [Hb]; · iexact Hb
    isplitl [Hbufs Hst]
    · iapply (show iprop(held (d.tc : Thread nD τ) (ucRefs τ sig) (V5 m d) ∗ (K (F := F)).tcSt EH d 1) ⊢ (reg2 (V5 m)).pre d from .rfl)
      isplitl [Hbufs]; · iexact Hbufs
      iexact Hst
    isplitr; · iexact Hlev
    iexact Hg1
  iintro ⟨Hb, H⟩
  ihave H' := (show (reg2 (V5 m)).post d ⊢ iprop(held (d.tc : Thread nD τ) (ucRefs τ sig) (V6 m d) ∗ (K (F := F)).tcSt EH d 1) from .rfl) $$ H
  icases H' with ⟨Hbufs, Hst⟩
  -- to the end
  rw [show (seq opsD : Prog (TpuEff nD τ sig (Elt F) _ .tc) PUnit) = (seq opsD >>= fun _ => pure ⟨⟩) from (bind_pure _).symm]
  iapply (StableHlo.wp_seq 𝒱 none Set.univ d (ucRefs τ sig) _ opsD opsD_bufs opsD_fresh (V6 m d)) $$ [Hb Hbufs]
  · isplitl [Hb]; · iexact Hb
    iexact Hbufs
  iintro ⟨Hb, Hbufs⟩
  rw [wp_pure]
  imodintro
  isplitl [Hst]; · iexact Hst
  isplitl [Hbufs]; · iexact Hbufs
  isplitl [Hb]; · iexact Hb
  iexact Hts

end Cert.Proof

end
-- ==== Proof.Keep.lean ====
/-
  What the host's operations and the calls leave alone: @main's arguments, at every point; and so the SparseCore
  call's list is the argument `eidx`, every word of which names a row of the table.
-/
module

public import proofs.«01_k».proof.Proof.Main

@[expose] public section

noncomputable section

namespace Cert.Proof

open Cert.KernelIdeal Cert.KernelIdeal.Gen

open Idealize.ShloMosaic
open Idealize.ShloMosaic.TcCoe
open Idealize.ShloMosaic.SparseCore.Cfg (HIx Pay WBelow)
open Idealize.ShloMosaic.StableHlo (held seq after)
open Idealize.ShloMosaic.Pipeline (Dat pin BodyObligation RegionSeg LaunchFacts ucRefs arrRef arrRefs afterRegion)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ)

/-! ## What the run leaves alone -/

/-- @main's arguments. -/
def argRefs : List (Ref sig .tc) := [main_arg0, main_arg1, main_arg2, main_arg3, main_arg4, main_arg5, main_arg6, main_arg7]

/-- A property of every argument, argument by argument. -/
theorem forall_args {p : Ref sig .tc → Prop} (h0 : p main_arg0) (h1 : p main_arg1) (h2 : p main_arg2) (h3 : p main_arg3)
    (h4 : p main_arg4) (h5 : p main_arg5) (h6 : p main_arg6) (h7 : p main_arg7) : ∀ r ∈ argRefs, p r := by
  intro r hr
  simp only [argRefs, List.mem_cons, List.not_mem_nil, or_false] at hr
  rcases hr with rfl | rfl | rfl | rfl | rfl | rfl | rfl | rfl <;> assumption

theorem keepA (d : Dev nD) : ∀ r ∈ argRefs, V1 m d (Proc.devRef .tc r) = m (d, Proc.devRef .tc r) := by
  intro r hr
  refine StableHlo.after_of_forall_not_mem opsA _ ?_
  revert r
  apply forall_args <;>
  · refine List.forall_iff_forall_mem.mp ?_
    unfold opsA
    simp only [List.Forall]
    repeat' apply And.intro
    all_goals exact (fun h => absurd (Finset.mem_singleton.mp h) (by decide))
theorem keep2 (d : Dev nD) : ∀ r ∈ argRefs, V2 m d (Proc.devRef .tc r) = V1 m d (Proc.devRef .tc r) := by
  intro r hr
  have h : ∀ r ∈ argRefs, ∀ w : Fin 3, r ≠ arrRef spec0 w := by unfold argRefs; decide
  exact Pipeline.afterRegion_of_not_arr _ _ (h r hr)
theorem keepB (d : Dev nD) : ∀ r ∈ argRefs, V3 m d (Proc.devRef .tc r) = V2 m d (Proc.devRef .tc r) := by
  intro r hr
  refine StableHlo.after_of_forall_not_mem opsB _ ?_
  revert r
  apply forall_args <;>
  · refine List.forall_iff_forall_mem.mp ?_
    unfold opsB
    exact (fun h => absurd (Finset.mem_singleton.mp h) (by decide))
theorem keep4 (d : Dev nD) : ∀ r ∈ argRefs, V4 m d (Proc.devRef .tc r) = V3 m d (Proc.devRef .tc r) := by
  apply forall_args <;> exact Function.update_of_ne (by decide) _ _
theorem keepC (d : Dev nD) : ∀ r ∈ argRefs, V5 m d (Proc.devRef .tc r) = V4 m d (Proc.devRef .tc r) := by
  intro r hr
  refine StableHlo.after_of_forall_not_mem opsC _ ?_
  revert r
  apply forall_args <;>
  · refine List.forall_iff_forall_mem.mp ?_
    unfold opsC
    simp only [List.Forall]
    repeat' apply And.intro
    all_goals exact (fun h => absurd (Finset.mem_singleton.mp h) (by decide))
theorem keep6 (d : Dev nD) : ∀ r ∈ argRefs, V6 m d (Proc.devRef .tc r) = V5 m d (Proc.devRef .tc r) := by
  intro r hr
  have h : ∀ r ∈ argRefs, ∀ w : Fin 13, r ≠ arrRef spec2 w := by unfold argRefs; decide
  exact Pipeline.afterRegion_of_not_arr _ _ (h r hr)
theorem keepD (d : Dev nD) : ∀ r ∈ argRefs, V7 m d (Proc.devRef .tc r) = V6 m d (Proc.devRef .tc r) := by
  intro r hr
  refine StableHlo.after_of_forall_not_mem opsD _ ?_
  revert r
  apply forall_args <;>
  · refine List.forall_iff_forall_mem.mp ?_
    unfold opsD
    exact (fun h => absurd (Finset.mem_singleton.mp h) (by decide))

theorem keep4' (d : Dev nD) (r : Ref sig .tc) (hr : r ∈ argRefs) : V4 m d (Proc.devRef .tc r) = m (d, Proc.devRef .tc r) :=
  (keep4 m d r hr).trans ((keepB m d r hr).trans ((keep2 m d r hr).trans (keepA m d r hr)))
theorem keep (d : Dev nD) (r : Ref sig .tc) (hr : r ∈ argRefs) : V7 m d (Proc.devRef .tc r) = m (d, Proc.devRef .tc r) :=
  (keepD m d r hr).trans ((keep6 m d r hr).trans ((keepC m d r hr).trans (keep4' m d r hr)))

/-! ## The neighbour list names rows of the table -/

/-- What the run asks of the launch memory: the words of `eidx` are row numbers. -/
def PreOK : Prop := ∀ (d : Dev nD) (i : S4096x48.Idx), (show BitVec 32 from m (d, Proc.devRef .tc main_arg2) i).toNat < 4096

theorem tabs_E (d : Dev nD) : (tabs m d).E = shapeCast S196608 (m (d, Proc.devRef .tc main_arg2)) shapeCasts_S4096x48_S196608 := by
  have h : V2 m d (Proc.devRef .tc main_arg2) = m (d, Proc.devRef .tc main_arg2) :=
    (keep2 m d main_arg2 (by simp [argRefs])).trans (keepA m d main_arg2 (by simp [argRefs]))
  rw [← h]
  exact StableHlo.reshape_result main_arg2 main_v4 rfl shapeCasts_S4096x48_S196608 (by decide) (by decide) (V2 m d)

theorem inRange (h : PreOK m) : InRange (tabs m) := fun d j => by
  rw [tabs_E]; exact h d _

end Cert.Proof

end
-- ==== Proof.Run.lean ====
/-
  The whole program's run: every device's buffers end at `V7` of the launch memory, every semaphore at zero.
-/
module

public import proofs.«01_k».proof.Proof.Keep

@[expose] public section

noncomputable section

namespace Cert.Proof

open Cert.KernelIdeal Cert.KernelIdeal.Gen

open Idealize.ShloMosaic
open Idealize.ShloMosaic.TcCoe
open Idealize.ShloMosaic.SparseCore.Cfg (HIx Pay WBelow)
open Idealize.ShloMosaic.StableHlo (held seq after)
open Idealize.ShloMosaic.Pipeline (Dat pin BodyObligation RegionSeg LaunchFacts ucRefs arrRef arrRefs afterRegion)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The launch -/

theorem vecSplit (t : Dev nD → Tables F) : (K (F := F)).VecSplit' (P t) 0 := by
  intro d c
  show (bigSep Finset.univ fun s : Fin 16 => goPart t d (wid (Fin.cast nCore_zero c) s)) ⊢ |={Set.univ}=> iprop(
      (bigSep Finset.univ fun i : Fin 16 => goPart t d (wid (Fin.cast nCore_zero c) i))
      ∗ ((bigSep Finset.univ fun i : Fin 16 => donePart t d (wid (Fin.cast nCore_zero c) i))
          -∗ bigSep Finset.univ fun s : Fin 16 => donePart t d (wid (Fin.cast nCore_zero c) s)))
  iintro H; imodintro
  isplitl [H]; · iexact H
  iintro H; iexact H

/-- The pipelines' ghost state at the launch, and the whole. -/
def u₁ : UP := initOf (Pipeline.cells (nD := nD) (τ := τ) (pin (pcfgs (F := F)) adm) ((launch0).toP.cellOf_inj adm)) (Pipeline.launchToks (nD := nD) (τ := τ) (pin (pcfgs (F := F)) adm) ((launch0).toP.cellOf_inj adm))
def u₀ : UU := (initOf (K (F := F)).hsCells (K (F := F)).hsToks, (u₁ (F := F), 1))

theorem ghosts : (BI.own (EP (F := F) (u₁ (F := F))) : sProp 𝕄) ⊢ |==> bigSep Finset.univ fun d : Dev nD => Gh (F := F) d := by
  refine BIBase.Entails.trans (Pipeline.fund_ghost (pin (pcfgs (F := F)) adm) EP ((launch0).toP.cellOf_inj adm)) ?_
  iintro H
  imod H
  imodintro
  icases H with ⟨Hc, Ht⟩
  ihave H := (Entails.of_eq (bigSep_sep' (M := 𝕄) (Finset.univ : Finset (Dev nD)) (Φ := fun c => bigSep Finset.univ fun p => Pipeline.cellsGhost (pin (pcfgs (F := F)) adm) EP p c) (Ψ := fun c => bigSep Finset.univ fun p => Pipeline.toksInit (pin (pcfgs (F := F)) adm) EP p c)).symm) $$ [Hc Ht]
  · isplitl [Hc] <;> iassumption
  iapply (show (bigSep Finset.univ fun c : Dev nD => iprop((bigSep Finset.univ fun p => Pipeline.cellsGhost (pin (pcfgs (F := F)) adm) EP p c) ∗ bigSep Finset.univ fun p => Pipeline.toksInit (pin (pcfgs (F := F)) adm) EP p c) : sProp 𝕄) ⊢ bigSep Finset.univ fun d : Dev nD => Gh (F := F) d from bigSep_mono fun d _ => by
    rw [bigSep_fin_two, bigSep_fin_two]
    show iprop((Pipeline.cellsGhost (pin (pcfgs (F := F)) adm) EP 0 d ∗ Pipeline.cellsGhost (pin (pcfgs (F := F)) adm) EP 1 d)
      ∗ (Pipeline.toksInit (pin (pcfgs (F := F)) adm) EP 0 d ∗ Pipeline.toksInit (pin (pcfgs (F := F)) adm) EP 1 d)) ⊢ Gh (F := F) d
    iintro ⟨⟨H1, H2⟩, H3, H4⟩
    isplitl [H1 H3]
    · isplitl [H1] <;> iassumption
    isplitl [H2] <;> iassumption)
  iexact H

theorem bigSep_none {I : Type} (s : Finset I) : (bigSep s fun _ => iprop(emp)) = (iprop(emp) : sProp 𝕄) := bigSep_emp_const s

theorem hu₀ (t : Dev nD → Tables F) : (ownU (u₀ (F := F)) : sProp 𝕄)
    ⊢ |={Set.univ}=> iprop(BI.own (EH (initOf (K (F := F)).hsCells (K (F := F)).hsToks)) ∗ (bigSep Finset.univ fun d : Dev nD => Gh (F := F) d)
        ∗ bigSep Finset.univ fun thr : Thread nD τ => bigSep Finset.univ fun q : Fin 1 => (P t).x q thr) := by
  unfold u₀
  iintro Hu
  ihave H := (ownU_pair (initOf (K (F := F)).hsCells (K (F := F)).hsToks) ((u₁ (F := F), 1) : UP × Counters)) $$ Hu
  icases H with ⟨HH, HR⟩
  ihave H := (own_pair_emb embR (u₁ (F := F)) (1 : Counters)) $$ HR
  icases H with ⟨HP, -⟩
  ihave H := (show (BI.own (((Emb.inl : Emb UP (UP × Counters)).trans embR) (u₁ (F := F))) : sProp 𝕄) ⊢ |==> bigSep Finset.univ fun d : Dev nD => Gh (F := F) d from ghosts) $$ HP
  imod H
  imodintro
  isplitl [HH]; · iexact HH
  isplitl [H]; · iexact H
  rw [show (bigSep Finset.univ fun thr : Thread nD τ => bigSep Finset.univ fun q : Fin 1 => (P (F := F) t).x q thr) = bigSep Finset.univ fun _ => iprop(emp) from
    bigSep_congr fun _ _ => bigSep_univ_of_subsingleton (0 : Fin 1), bigSep_none]
  iempintro

/-! ## The end -/

/-- Every buffer of device `d` at `V7`. -/
def fq (d : Dev nD) (s' : Phys nD τ sig (Elt F)) : Prop :=
  ∀ b ∈ ucRefs τ sig, s'.mem.mem (d, b) = V7 m d b

theorem hfin1 (d : Dev nD) (s' : Phys nD τ sig (Elt F)) {b : DevRef τ sig} (hb : b ∈ ucRefs τ sig) :
    iprop(FIN m d ∗ SI s') ⊢ (⌜s'.mem.mem (d, b) = V7 m d b⌝ : sProp 𝕄) := by
  iintro ⟨H, HSI⟩
  ihave H := (show FIN m d ⊢ ((d, b) ↦{fullShare} V7 m d b : sProp 𝕄) from bigSep_elim (Φ := fun b => ((d, b) ↦{fullShare} V7 m d b : sProp 𝕄)) hb) $$ H
  ihave H := (SI_pointsTo_agree (st := s') (ℓ := (d, b)) (I := Finset.univ) (q := fullShare) (f := V7 m d b)) $$ [HSI H]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  refine BIBase.Entails.trans ?_ (pure_forall (PROP := sProp 𝕄)).2
  refine forall_intro fun b => ?_
  by_cases hb : b ∈ ucRefs τ sig
  · exact (hfin1 m d s' hb).trans (Laws.pure_mono fun h _ => h)
  · exact BIClass.pure_intro fun h => absurd h hb

/-- What the run ends with. -/
def QC : PUnit × MemSt nD τ sig (Elt F) → Prop := fun r =>
  (∀ (c : Dev nD), ∀ b ∈ ucRefs τ sig, r.2.mem (c, b) = V7 m c b) ∧ r.2.sem = fun _ => 0

theorem run_main [∀ e, Nonempty (Elt F e)] (ρ : Dev nD → PrngReg) (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabs m)) (A := ∅) facts v₀
    (fun q hq => match q with | 0 => nomatch hq)
    (fun q _ => match q with | 0 => tileObl (tabs m) facts (inRange m hpre))
    (fun q _ => match q with | 0 => SparseCore.Cfg.VecSplit.of_plain (vecSplit (tabs m)))
    m ρ main (fun d => Gh d) (FIN m) (u₀ (F := F)) (sep_elim_left.trans (hu₀ (tabs m))) (hmain m ρ) (fq m) (hfin m) (QC m) (fun _ h hz => ⟨h, hz⟩)

end Cert.Proof

end
-- ==== Proof.Range.lean ====
/-
  The precondition read back: every word of `residue_idx` and of `eidx` is below 4096.
-/
module

public import proofs.«01_k».proof.Defs
public import proofs.«01_k».proof.Proof.Gen.Pre_pre
public import Idealize.ShloMosaic.Lib.ReduceAll

@[expose] public section

namespace Cert.Proof

open Idealize.ShloMosaic Cert.Pre_pre Cert.Pre_pre.Gen

/-- A word that is at least 0 and less than 4096 as a signed word is below 4096. -/
theorem word_lt {v : BitVec 32} (h0 : IntOp.cmpi .sge v 0#32 = 1#1) (h1 : IntOp.cmpi .slt v 4096#32 = 1#1) : v.toNat < 4096 := by
  have a := IntOp.cmpi_sge.1 h0
  have b := IntOp.cmpi_slt.1 h1
  simp only [BitVec.toInt_eq_toNat_cond, BitVec.toNat_ofNat, Nat.reducePow, Nat.reduceMod] at a b
  omega

/-- The scalar shape has one index. -/
theorem scalar_subsingleton : Subsingleton S_.Idx := ⟨fun i j => funext fun a => a.elim0⟩

/-- What the precondition says of its two arrays of words. -/
theorem ranges {F : FTy → Type} [FloatOps F] (X : FVec F S4x1024x4x3 .f32) (r : IVec S4x1024 32) (e : IVec S4096x48 32)
    (wp : FVec F S16x66 .f32) (bp : FVec F S16 .f32) (we : FVec F S128x416 .f32) (g b : FVec F S128 .f32)
    (h : Cert.Pre_pre.fn X r e wp bp we g b = fun _ => 1#1) : (∀ i, (r i).toNat < 4096) ∧ ∀ i, (e i).toNat < 4096 := by
  haveI := scalar_subsingleton
  have h' := congrFun h (fun a => a.elim0)
  obtain ⟨h3, h4⟩ := IntOp.andi_eq_one.1 h'
  obtain ⟨h2, h3⟩ := IntOp.andi_eq_one.1 h3
  obtain ⟨h1, h2⟩ := IntOp.andi_eq_one.1 h2
  exact ⟨fun i => word_lt (Host.reduce_andi_all _ _ _ _ _ h1 i) (Host.reduce_andi_all _ _ _ _ _ h2 i),
    fun i => word_lt (Host.reduce_andi_all _ _ _ _ _ h3 i) (Host.reduce_andi_all _ _ _ _ _ h4 i)⟩

end Cert.Proof
-- ==== Proof.Frames.lean ====
/-
  The kernel's two frame claims, both from the one run: the claims' precondition gives what the run asks of the launch
  memory, and every argument ends as it was.
-/
module

public import proofs.«01_k».proof.Proof.Run
public import proofs.«01_k».proof.Proof.Range
public import proofs.«01_k».proof.Proof.Gen.Kernel

@[expose] public section

noncomputable section

namespace Cert.Proof

open Idealize.ShloMosaic Idealize.ShloMosaic.TcCoe Idealize.SL.Sem
open Cert.KernelIdeal Cert.KernelIdeal.Gen

variable {F : FTy → Type} [FloatOps F]

/-- An argument is one of the buffers the run speaks of. -/
theorem arg_mem : ∀ r ∈ argRefs, (Proc.devRef .tc r : DevRef τ sig) ∈ Pipeline.ucRefs τ sig := by
  apply forall_args <;> exact Pipeline.devRef_mem_ucRefs rfl

/-- Every argument at the end of the run. -/
theorem arg_end (m : (ℓ : Loc nD τ sig) → Buf (Elt F) ℓ) (c : Dev nD) {mem : (ℓ : Loc nD τ sig) → Buf (Elt F) ℓ}
    (h : ∀ b ∈ Pipeline.ucRefs τ sig, mem (c, b) = V7 m c b) : ∀ r ∈ argRefs, mem (c, Proc.devRef .tc r) = m (c, Proc.devRef .tc r) :=
  fun r hr => (h _ (arg_mem r hr)).trans (keep m c r hr)

/-- The run, read at the arguments. -/
theorem frame_any [∀ e, Nonempty (Elt F e)] (m : (ℓ : Loc nD τ sig) → Buf (Elt F) ℓ) (ρ : Dev nD → PrngReg) (h : PreOK m) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run Cert.KernelIdeal.defs _ _).mono
    (fun _ h => ⟨fun c =>
      have e := arg_end m c (h.1 c)
      ⟨e main_arg0 (by simp [argRefs]), e main_arg1 (by simp [argRefs]), e main_arg2 (by simp [argRefs]), e main_arg3 (by simp [argRefs]),
        e main_arg4 (by simp [argRefs]), e main_arg5 (by simp [argRefs]), e main_arg6 (by simp [argRefs]), e main_arg7 (by simp [argRefs])⟩, h.2⟩)
    (run_main m ρ h)

theorem frame_ideal : Cert.quiescent_KernelIdeal := fun m ρ h =>
  frame_any (F := Ideal) m ρ fun d i => (ranges _ _ _ _ _ _ _ _ (h d)).2 i

end Cert.Proof

end
-- ==== Proof.Same.lean ====
/-
  The program as printed over 32-bit words and the program as printed over the reals are one text: each
  definition of the one is the definition of the other, for every float type.
-/
module

public import proofs.«01_k».proof.Proof.Frames

@[expose] public section

noncomputable section

namespace Cert.Proof

open Idealize.ShloMosaic Idealize.ShloMosaic.TcCoe Idealize.SL.Sem

variable {F : FTy → Type} [FloatOps F]

/-! ## The definitions, one by one -/

theorem cc0_same : Cert.Kernel.cc0__atoms_kernel (F := F) = Cert.KernelIdeal.cc0__atoms_kernel (F := F) := rfl
theorem cc2_same : Cert.Kernel.cc2__edge_kernel (F := F) = Cert.KernelIdeal.cc2__edge_kernel (F := F) := rfl

set_option maxHeartbeats 4000000 in
/-- The bodies the labels name: the first kernel, the gather, the last kernel. -/
theorem defs₀_same : Cert.Kernel.defs₀ (F := F) = Cert.KernelIdeal.defs₀ (F := F) := by
  funext p ℓ a
  match p, ℓ, a with
  | .tc, 0, (t, s) => unfold Cert.Kernel.defs₀ Cert.KernelIdeal.defs₀; dsimp only; rw [cc0_same]; rfl
  | .tc, 1, _ => rfl
  | .tc, 2, (t, s) => unfold Cert.Kernel.defs₀ Cert.KernelIdeal.defs₀; dsimp only; rw [cc2_same]; rfl
  | .scVector c s, 1, _ => rfl
  | .scVector c s, 0, _ => rfl
  | .scVector c s, 2, _ => rfl
  | .scScalar c, 0, _ => rfl
  | .scScalar c, 1, _ => rfl
  | .scScalar c, 2, _ => rfl

theorem defs_same : Cert.Kernel.defs (F := F) = Cert.KernelIdeal.defs (F := F) :=
  congrArg (fun D => (Cert.KernelIdeal.sc (F := F)).defs (Pipeline.defs Cert.KernelIdeal.pcfgs D)) defs₀_same

set_option maxHeartbeats 2000000 in
theorem main_same : Cert.Kernel.main (F := F) = Cert.KernelIdeal.main (F := F) := by
  funext d
  unfold Cert.Kernel.main Cert.KernelIdeal.main
  rfl

theorem threads_same : Cert.Kernel.threads (F := F) = Cert.KernelIdeal.threads (F := F) :=
  congrArg (fun M => (Cert.KernelIdeal.sc (F := F)).threads M) main_same

/-! ## The frame over 32-bit words -/

theorem frame_kernel : Cert.quiescent_Kernel := fun m ρ h => by
  rw [defs_same, threads_same]
  exact frame_any (F := Bits) m ρ fun d i => (ranges _ _ _ _ _ _ _ _ (h d)).2 i

end Cert.Proof

end
-- ==== Proof.RefFrame.lean ====
/-
  The reference's frame: its run as the generated module reads it back, at the arguments. The reference declares no
  semaphore, so every counter reads zero at its end.
-/
module

public import proofs.«01_k».proof.Defs
public import proofs.«01_k».proof.Proof.Gen.ReferenceIdeal.Run
public import proofs.«01_k».proof.Proof.Gen.Pre_pre

@[expose] public section

noncomputable section

namespace Cert.Proof

open Idealize.ShloMosaic Idealize.SL.Sem

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same claim, stated for launches in range. -/
theorem frame_reference_pre : Cert.quiescent_ReferenceIdeal_pre_pre := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Spec.lean ====
/-
  What one edge's features are, as a formula over the extended reals: the program and the reference are each
  read at an index and found to be this.
-/
module

public import Idealize.ShloMosaic.Lib.Pointwise

@[expose] public section

noncomputable section

namespace Cert.Proof

open Idealize.ShloMosaic

/-- The number that a 32-bit word names. -/
abbrev num (w : BitVec 32) : EReal := Ideal.ofBits .f32 w

/-- The four atoms N, CA, C, O of a residue, three coordinates each. -/
abbrev Residue := Fin 4 → Fin 3 → EReal

/-- The cross product of the bonds N–CA and CA–C. -/
def crossOf (x : Residue) (c : Fin 3) : EReal :=
  if c.1 < 1 then (x 1 1 - x 0 1) * (x 2 2 - x 1 2) - (x 1 2 - x 0 2) * (x 2 1 - x 1 1)
  else if c.1 < 2 then (x 1 2 - x 0 2) * (x 2 0 - x 1 0) - (x 1 0 - x 0 0) * (x 2 2 - x 1 2)
  else (x 1 0 - x 0 0) * (x 2 1 - x 1 1) - (x 1 1 - x 0 1) * (x 2 0 - x 1 0)

/-- The fifth atom, CB, placed from the bonds. -/
def cbOf (x : Residue) (c : Fin 3) : EReal :=
  num 0xBF152E13#32 * crossOf x c + num 0x3F116A4D#32 * (x 1 c - x 0 c) - num 0x3F0A69A8#32 * (x 2 c - x 1 c) + x 1 c

/-- The five atoms N, CA, C, O, CB. -/
def atom (x : Residue) (a : Fin 5) (c : Fin 3) : EReal := if h : a.1 < 4 then x ⟨a.1, h⟩ c else cbOf x c

/-- The residue's atom of each pair. -/
def pairA : Fin 25 → Fin 5 := ![1, 0, 2, 3, 4, 1, 1, 1, 1, 0, 0, 0, 4, 4, 3, 0, 2, 3, 4, 2, 3, 4, 2, 3, 2]

/-- The neighbour's atom of each pair. -/
def pairB : Fin 25 → Fin 5 := ![1, 0, 2, 3, 4, 0, 2, 3, 4, 2, 3, 4, 2, 3, 2, 1, 1, 1, 1, 0, 0, 0, 4, 4, 3]

/-- The centre of a radial function: sixteen evenly spaced numbers from 2 to 22. -/
def centre (q : Fin 16) : EReal :=
  if q.1 < 15 then
    num 0x40000000#32 * (1 - Ideal.div (FloatOps.sitofp (F := Ideal) .f32 (BitVec.ofNat 32 q.1)) (num 0x41700000#32))
      + num 0x41B00000#32 * Ideal.div (FloatOps.sitofp (F := Ideal) .f32 (BitVec.ofNat 32 q.1)) (num 0x41700000#32)
  else num 0x41B00000#32

/-- The distance of a pair's atoms, the squares' sum kept off zero. -/
def dist (x y : Residue) (p : Fin 25) : EReal :=
  Ideal.sqrt (∑ c : Fin 3, (atom x (pairA p) c - atom y (pairB p) c) * (atom x (pairA p) c - atom y (pairB p) c) + num 0x358637BD#32)

/-- How far the distance is from a centre, in widths. -/
def away (x y : Residue) (p : Fin 25) (q : Fin 16) : EReal := Ideal.div (dist x y p - centre q) (num 0x3FA00000#32)

/-- The radial function of the distance. -/
def radial (x y : Residue) (p : Fin 25) (q : Fin 16) : EReal := Ideal.exp (-(away x y p q * away x y p q))

/-- The class of two residue numbers: their difference plus 32, held between 0 and 64. -/
def offset (r s : ℕ) : ℕ := (min 64 (max 0 ((r : ℤ) - s + 32))).toNat

/-- The positional feature: the column of the table at the class, and the bias. -/
def posOf (r s : ℕ) (w : Fin 16 → Fin 66 → EReal) (b : Fin 16 → EReal) (j : Fin 16) : EReal :=
  (∑ v : Fin 66, (if v.1 = offset r s then 1 else 0) * w j v) + b j

/-- The weights of the layer. -/
structure Weights where
  wp : Fin 16 → Fin 66 → EReal
  bp : Fin 16 → EReal
  we : Fin 128 → Fin 416 → EReal
  gamma : Fin 128 → EReal
  beta : Fin 128 → EReal

/-- The edge before normalisation: the features times the weights. -/
def edgeRaw (W : Weights) (x y : Residue) (r s : ℕ) (o : Fin 128) : EReal :=
  (∑ j : Fin 16, posOf r s W.wp W.bp j * W.we o ⟨j.1, by omega⟩)
    + ∑ k : Fin 400, radial x y ⟨k.1 / 16, by omega⟩ ⟨k.1 % 16, by omega⟩ * W.we o ⟨16 + k.1, by omega⟩

/-- The mean of 128 numbers. -/
def mean (f : Fin 128 → EReal) : EReal := Ideal.div (∑ o, f o) (num 0x43000000#32)

/-- 128 numbers normalised to mean 0 and variance 1, then scaled and shifted. -/
def normed (gamma beta f : Fin 128 → EReal) (o : Fin 128) : EReal :=
  Ideal.div (f o - mean f) (Ideal.sqrt (mean (fun k => (f k - mean f) * (f k - mean f)) + num 0x3727C5AC#32)) * gamma o + beta o

/-- The features of the edge from a residue (atoms `x`, number `r`) to its neighbour (atoms `y`, number `s`). -/
def edge (W : Weights) (x y : Residue) (r s : ℕ) (o : Fin 128) : EReal :=
  normed W.gamma W.beta (edgeRaw W x y r s) o

/-! ## The arrays of the problem -/

/-- Residue `i`'s atoms, of the coordinates of four proteins of 1024 residues. -/
def residue (A : (⟨4, ![4, 1024, 4, 3]⟩ : Shape).Idx → EReal) (i : Fin 4096) : Residue :=
  fun a c => A (ix4 ⟨i.1 / 1024, by omega⟩ ⟨i.1 % 1024, by omega⟩ a c)

/-- Residue `i`'s number. -/
def number (R : (⟨2, ![4, 1024]⟩ : Shape).Idx → BitVec 32) (i : Fin 4096) : ℕ := (R (ix2 ⟨i.1 / 1024, by omega⟩ ⟨i.1 % 1024, by omega⟩)).toNat

/-- The residue that is neighbour `k` of residue `i`. -/
def neighbour (E : (⟨2, ![4096, 48]⟩ : Shape).Idx → BitVec 32) (i : Fin 4096) (k : Fin 48) : Fin 4096 :=
  ⟨(E (ix2 i k)).toNat % 4096, Nat.mod_lt _ (by decide)⟩

/-- The layer's weights, of its five arrays. -/
def weights (wp : (⟨2, ![16, 66]⟩ : Shape).Idx → EReal) (bp : (⟨1, ![16]⟩ : Shape).Idx → EReal) (we : (⟨2, ![128, 416]⟩ : Shape).Idx → EReal)
    (g b : (⟨1, ![128]⟩ : Shape).Idx → EReal) : Weights where
  wp j v := wp (ix2 j v)
  bp j := bp (ix1 j)
  we o k := we (ix2 o k)
  gamma o := g (ix1 o)
  beta o := b (ix1 o)

/-- The features of residue `i`'s edge to its neighbour `k`. -/
def edgeAt (W : Weights) (A : (⟨4, ![4, 1024, 4, 3]⟩ : Shape).Idx → EReal) (R : (⟨2, ![4, 1024]⟩ : Shape).Idx → BitVec 32)
    (E : (⟨2, ![4096, 48]⟩ : Shape).Idx → BitVec 32) (i : Fin 4096) (k : Fin 48) (o : Fin 128) : EReal :=
  edge W (residue A i) (residue A (neighbour E i k)) (number R i) (number R (neighbour E i k)) o

end Cert.Proof

end
-- ==== Proof.Numbers.lean ====
/-
  The words of the programs that are read as numbers, and the class of two residue numbers: the program finds it
  among the reals, by a window one half to each side, the reference among the words.
-/
module

public import proofs.«01_k».proof.Proof.Spec
public import Idealize.ShloMosaic.Lib.WordCmp
public import Idealize.ShloMosaic.Lib.WordArith

@[expose] public section

noncomputable section

namespace Cert.Proof

open Idealize.ShloMosaic Idealize.ShloMosaic.WordArith

theorem num_half : num 0x3F000000#32 = ((1 / 2 : ℝ) : EReal) := by
  simp [num, Ideal.ofBits, Ideal.ieee, -EReal.coe_mul]; norm_num
theorem num_32 : num 0x42000000#32 = ((32 : ℝ) : EReal) := by
  simp [num, Ideal.ofBits, Ideal.ieee, -EReal.coe_mul]; norm_num
theorem num_64 : num 0x42800000#32 = ((64 : ℝ) : EReal) := by
  simp [num, Ideal.ofBits, Ideal.ieee, -EReal.coe_mul]; norm_num
theorem num_128 : num 0x43000000#32 = ((128 : ℝ) : EReal) := by
  simp [num, Ideal.ofBits, Ideal.ieee, -EReal.coe_mul]; norm_num

/-- The class as a real. -/
theorem offset_real (r s : ℕ) :
    min (num 0x42800000#32) (max 0 (((r : ℝ) : EReal) - ((s : ℝ) : EReal) + num 0x42000000#32)) = ((offset r s : ℝ) : EReal) := by
  rw [num_32, num_64, ← EReal.coe_sub, ← EReal.coe_add, ← EReal.coe_zero, ← EReal.coe_strictMono.monotone.map_max, ← EReal.coe_strictMono.monotone.map_min]
  congr 1
  have h : ((offset r s : ℤ)) = min 64 (max 0 ((r : ℤ) - s + 32)) := by unfold offset; omega
  rw [show ((offset r s : ℕ) : ℝ) = (((offset r s : ℕ) : ℤ) : ℝ) from rfl, h]
  push_cast
  rfl

/-- A whole number lies in the window about another only if it is that number. -/
theorem window (v d : ℕ) (hv : v < 66) :
    Scalar.select (IntOp.andi
        (BitVec.ofBool (decide (((d : ℝ) : EReal) - num 0x3F000000#32 < FloatOps.sitofp (F := Ideal) .f32 (BitVec.ofNat 32 v))))
        (BitVec.ofBool (decide (FloatOps.sitofp (F := Ideal) .f32 (BitVec.ofNat 32 v) < ((d : ℝ) : EReal) + num 0x3F000000#32))))
      (1 : EReal) 0 = if v = d then 1 else 0 := by
  have hs : (FloatOps.sitofp (F := Ideal) .f32 (BitVec.ofNat 32 v) : EReal) = ((v : ℝ) : EReal) := by
    show (((BitVec.ofNat 32 v).toInt : ℝ) : EReal) = _
    congr 1
    rw [show (BitVec.ofNat 32 v).toInt = (v : ℤ) by rw [BitVec.toInt_eq_toNat_cond]; simp; omega]
    rfl
  rw [hs, num_half, ← EReal.coe_sub, ← EReal.coe_add]
  simp only [EReal.coe_lt_coe_iff]
  by_cases h : v = d
  · subst h
    have h1 : (v : ℝ) - 1 / 2 < v := by linarith
    have h2 : (v : ℝ) < v + 1 / 2 := by linarith
    simp [h1, h2, Scalar.select, IntOp.andi]
  · rw [if_neg h]
    rcases Nat.lt_or_gt_of_ne h with h' | h'
    · have h1 : ¬ ((d : ℝ) - 1 / 2 < v) := by
        have : (v : ℝ) + 1 ≤ d := by exact_mod_cast h'
        linarith
      rw [show decide ((d : ℝ) - 1 / 2 < v) = false from decide_eq_false h1]; simp [Scalar.select, IntOp.andi]
    · have h2 : ¬ ((v : ℝ) < d + 1 / 2) := by
        have : (d : ℝ) + 1 ≤ v := by exact_mod_cast h'
        linarith
      rw [show decide ((v : ℝ) < d + 1 / 2) = false from decide_eq_false h2]; simp [Scalar.select, IntOp.andi]

/-- The same class among words below 4096, compared with a column's number. -/
theorem word_class (a b : BitVec 32) (ha : a.toNat < 4096) (hb : b.toNat < 4096) (v : ℕ) (hv : v < 66) :
    (FloatOps.uitofp (F := Ideal) .f32 (IntOp.cmpi .eq (IntOp.minsi 64#32 (IntOp.maxsi 0#32 (IntOp.addi (IntOp.subi a b) 32#32))) (BitVec.ofNat 32 v)) : EReal)
      = if v = offset a.toNat b.toNat then 1 else 0 := by
  have hx : (IntOp.addi (IntOp.subi a b) 32#32).toInt = (a.toNat : ℤ) - b.toNat + 32 := by
    simp only [IntOp.addi, IntOp.subi, BitVec.toInt_eq_toNat_cond, BitVec.toNat_add, BitVec.toNat_sub, BitVec.toNat_ofNat]
    split <;> omega
  have h1 : (IntOp.maxsi 0#32 (IntOp.addi (IntOp.subi a b) 32#32)).toNat = (max 0 ((a.toNat : ℤ) - b.toNat + 32)).toNat := by
    rw [toNat_maxsi_zero, hx]; omega
  have h2 : (IntOp.minsi 64#32 (IntOp.maxsi 0#32 (IntOp.addi (IntOp.subi a b) 32#32))).toNat = offset a.toNat b.toNat := by
    generalize IntOp.maxsi 0#32 (IntOp.addi (IntOp.subi a b) 32#32) = y at h1 ⊢
    have hy : y.toInt = y.toNat := by rw [BitVec.toInt_eq_toNat_cond]; split <;> omega
    unfold offset IntOp.minsi
    rw [BitVec.slt_eq_decide]
    have : (64#32 : BitVec 32).toInt = 64 := by decide
    rw [this, hy]
    split
    · rename_i h; have h := of_decide_eq_true h; simp only [BitVec.toNat_ofNat]; omega
    · rename_i h; have h : ¬ _ := fun hh => h (decide_eq_true hh); omega
  rw [WordCmp.cmpi_eq_eq_toNat, h2, BitVec.toNat_ofNat, Nat.mod_eq_of_lt (by omega)]
  show ((((BitVec.ofBool (decide (offset a.toNat b.toNat = v))).toNat : ℝ)) : EReal) = _
  by_cases h : v = offset a.toNat b.toNat
  · rw [if_pos h, decide_eq_true h.symm]; simp
  · rw [if_neg h, decide_eq_false (fun hh => h hh.symm)]; simp

end Cert.Proof

end
-- ==== Proof.EdgeValue.lean ====
/-
  A block of the edge kernel's result, read at a row and a column over the extended reals: the products with 0/1
  tables pick single numbers, and what is left is the formula of one edge.
-/
module

public import proofs.«01_k».proof.Proof.EdgeBody
public import proofs.«01_k».proof.Proof.Numbers

@[expose] public section

noncomputable section

namespace Cert.Proof

open Idealize.ShloMosaic Cert.KernelIdeal Cert.KernelIdeal.Gen

/-- A row of the atoms table: the coordinates of five atoms, and the residue's number. -/
structure IsRow (v : Fin 16 → EReal) (x : Residue) (r : ℕ) : Prop where
  at_atom : ∀ (a : Fin 5) (c : Fin 3), v ⟨3 * a.1 + c.1, by omega⟩ = atom x a c
  at_num : v 15 = ((r : ℝ) : EReal)

/-- A sum of products with a column that has a single one. -/
theorem sum_pick {n : ℕ} (f g : Fin n → EReal) (k : Fin n) (h : ∀ i, g i = if i.1 = k.1 then 1 else 0) :
    ∑ i, f i * g i = f k := by
  rw [Finset.sum_eq_single k]
  · rw [h k, if_pos rfl, mul_one]
  · intro i _ hi
    rw [h i, if_neg (fun e => hi (Fin.ext e)), mul_zero]
  · exact fun hk => absurd (Finset.mem_univ k) hk

/-- Row `e` of the block belongs to residue `e / 48` of the block's sixteen. -/
theorem centre_row (y : Vec Ideal S16x16 .f32) (e : Fin 768) (l : Fin 16) :
    k2_pay3 (F := Ideal) y (ix2 e l) = y (ix2 ⟨e.1 / 48, by omega⟩ l) := by
  pointwise [k2_pay3]
  have h : ∀ i : Fin 16, Scalar.select
        (IntOp.andi (IntOp.cmpi CmpIPredicate.sge (BitVec.ofNat 32 e.1) (IntOp.muli (BitVec.ofNat 32 i.1) 48#32))
          (IntOp.cmpi CmpIPredicate.slt (BitVec.ofNat 32 e.1)
            (IntOp.addi (IntOp.muli (BitVec.ofNat 32 i.1) 48#32) 48#32)))
        (y (ix2 i l)) (0 : EReal) = if i.1 = e.1 / 48 then y (ix2 i l) else 0 := by
    intro i
    have h1 : IntOp.muli (BitVec.ofNat 32 i.1) 48#32 = BitVec.ofNat 32 (i.1 * 48) := by
      simp only [IntOp.muli, ← BitVec.ofNat_mul]
    have h2 : IntOp.addi (BitVec.ofNat 32 (i.1 * 48)) 48#32 = BitVec.ofNat 32 (i.1 * 48 + 48) := by
      simp only [IntOp.addi, ← BitVec.ofNat_add]
    rw [h1, h2, WordCmp.cmpi_sge_ofNat (by omega) (by omega), WordCmp.cmpi_slt_ofNat (by omega) (by omega)]
    by_cases hi : i.1 = e.1 / 48
    · rw [if_pos hi, decide_eq_true (by omega), decide_eq_true (by omega)]; rfl
    · rw [if_neg hi]
      rcases Nat.lt_or_ge e.1 (i.1 * 48) with h' | h'
      · rw [decide_eq_false (by omega)]; simp [Scalar.select, IntOp.andi]
      · rw [decide_eq_true h', decide_eq_false (by omega)]; rfl
  refine (Finset.sum_congr rfl fun i _ => h i).trans ?_
  rw [Finset.sum_eq_single (⟨e.1 / 48, by omega⟩ : Fin 16)]
  · rw [if_pos rfl]
  · intro i _ hi
    rw [if_neg (fun e => hi (Fin.ext e))]
  · exact fun hk => absurd (Finset.mem_univ _) hk

/-- The column of the class, at one edge. -/
theorem class_col (n : Vec Ideal S768x16 .f32) (y : Vec Ideal S16x16 .f32) (e : Fin 768) (r s : ℕ)
    (hr : y (ix2 ⟨e.1 / 48, by omega⟩ 15) = ((r : ℝ) : EReal)) (hs : n (ix2 e 15) = ((s : ℝ) : EReal)) (v : Fin 66) :
    k2_pay4 (F := Ideal) n y (ix2 e v) = if v.1 = offset r s then 1 else 0 := by
  pointwise [k2_pay4, k2_pay2]
  rw [centre_row, hr, hs, offset_real]
  exact window v.1 (offset r s) v.2

/-- What the four 0/1 tables and the table of centres hold. -/
structure IsTables (sa sb : S16x75.Idx → EReal) (gs : S75x25.Idx → EReal) (ex : S25x400.Idx → EReal) (mu : S1x400.Idx → EReal) : Prop where
  sa_at : ∀ (k : Fin 16) (t : Fin 75), sa (ix2 k t) = if k.1 = 3 * (pairA ⟨t.1 / 3, by omega⟩).1 + t.1 % 3 then 1 else 0
  sb_at : ∀ (k : Fin 16) (t : Fin 75), sb (ix2 k t) = if k.1 = 3 * (pairB ⟨t.1 / 3, by omega⟩).1 + t.1 % 3 then 1 else 0
  gs_at : ∀ (t : Fin 75) (p : Fin 25), gs (ix2 t p) = if t.1 / 3 = p.1 then 1 else 0
  ex_at : ∀ (p : Fin 25) (k : Fin 400), ex (ix2 p k) = if k.1 / 16 = p.1 then 1 else 0
  mu_at : ∀ k : Fin 400, mu (ix2 0 k) = centre ⟨k.1 % 16, by omega⟩

/-- The sum over a pair's three coordinates. -/
theorem sum_coords (gs : Fin 75 → EReal) (p : Fin 25) (hg : ∀ t, gs t = if t.1 / 3 = p.1 then 1 else 0) (f : Fin 75 → EReal) :
    ∑ t, f t * gs t = ∑ c : Fin 3, f ⟨p.1 * 3 + c.1, by omega⟩ := by
  rw [Fin.sum_univ_tiles 25 3 rfl, Finset.sum_eq_single p]
  · refine Finset.sum_congr rfl fun c _ => ?_
    rw [hg, if_pos (by show (p.1 * 3 + c.1) / 3 = p.1; omega), mul_one]
  · intro q _ hq
    refine Finset.sum_eq_zero fun c _ => ?_
    rw [hg, if_neg (fun h => hq (Fin.ext (by have h : (q.1 * 3 + c.1) / 3 = p.1 := h; omega))), mul_zero]
  · exact fun hk => absurd (Finset.mem_univ _) hk

section
variable {sa sb : S16x75.Idx → EReal} {gs : S75x25.Idx → EReal} {ex : S25x400.Idx → EReal} {mu : S1x400.Idx → EReal}

/-- The distance that the tables pick out, spread over the radial columns. -/
theorem dist_at (T : IsTables sa sb gs ex mu) (a n : Fin 16 → EReal) {x y : Residue} {r s : ℕ} (ha : IsRow a x r) (hn : IsRow n y s) (k : Fin 400) :
    ∑ p : Fin 25, Ideal.sqrt (∑ t : Fin 75,
        (∑ i, a i * sa (ix2 i t) - ∑ i, n i * sb (ix2 i t)) * (∑ i, a i * sa (ix2 i t) - ∑ i, n i * sb (ix2 i t)) * gs (ix2 t p)
        + Ideal.ofBits .f32 0x358637BD#32) * ex (ix2 p k) = dist x y ⟨k.1 / 16, by omega⟩ := by
  rw [sum_pick _ (fun p => ex (ix2 p k)) ⟨k.1 / 16, by omega⟩ (fun p => by rw [T.ex_at]; simp only [eq_comm])]
  rw [sum_coords (fun t => gs (ix2 t ⟨k.1 / 16, by omega⟩)) ⟨k.1 / 16, by omega⟩ (fun t => T.gs_at t _)]
  unfold dist
  congr 2
  refine Finset.sum_congr rfl fun c _ => ?_
  have hA : ∑ i, a i * sa (ix2 i ⟨k.1 / 16 * 3 + c.1, by omega⟩) = atom x (pairA ⟨k.1 / 16, by omega⟩) c := by
    rw [← ha.at_atom]
    refine sum_pick a _ _ fun i => ?_
    rw [T.sa_at]
    have e : (⟨(k.1 / 16 * 3 + c.1) / 3, by omega⟩ : Fin 25) = ⟨k.1 / 16, by omega⟩ := Fin.ext (by show (k.1 / 16 * 3 + c.1) / 3 = k.1 / 16; omega)
    have e' : (k.1 / 16 * 3 + c.1) % 3 = c.1 := by omega
    simp only [e, e']
  have hB : ∑ i, n i * sb (ix2 i ⟨k.1 / 16 * 3 + c.1, by omega⟩) = atom y (pairB ⟨k.1 / 16, by omega⟩) c := by
    rw [← hn.at_atom]
    refine sum_pick n _ _ fun i => ?_
    rw [T.sb_at]
    have e : (⟨(k.1 / 16 * 3 + c.1) / 3, by omega⟩ : Fin 25) = ⟨k.1 / 16, by omega⟩ := Fin.ext (by show (k.1 / 16 * 3 + c.1) / 3 = k.1 / 16; omega)
    have e' : (k.1 / 16 * 3 + c.1) % 3 = c.1 := by omega
    simp only [e, e']
  rw [hA, hB]

/-- What a block's operands hold for one edge, row `e` of the block. -/
structure IsEdge (W : Weights) (x y : Residue) (r s : ℕ) (e : Fin 768) (x0 : S768x16.Idx → EReal) (x1 : S16x16.Idx → EReal) (x2 : S66x16.Idx → EReal)
    (x3 : S1x16.Idx → EReal) (x9 : S416x128.Idx → EReal) : Prop where
  nb : IsRow (fun l => x0 (ix2 e l)) y s
  own : IsRow (fun l => x1 (ix2 ⟨e.1 / 48, by omega⟩ l)) x r
  wp : ∀ v j, x2 (ix2 v j) = W.wp j v
  bp : ∀ j, x3 (ix2 0 j) = W.bp j
  we : ∀ k o, x9 (ix2 k o) = W.we o k

variable {W : Weights} {x y : Residue} {r s : ℕ} {e : Fin 768} {x0 : S768x16.Idx → EReal} {x1 : S16x16.Idx → EReal} {x2 : S66x16.Idx → EReal}
    {x3 : S1x16.Idx → EReal} {x9 : S416x128.Idx → EReal}

/-- The products with the weights. -/
theorem edgeProd_at (T : IsTables sa sb gs ex mu) (h : IsEdge W x y r s e x0 x1 x2 x3 x9) (o : Fin 128) :
    edgeProd (F := Ideal) x0 x1 x2 x3 sa sb gs ex mu x9 (ix2 e o) = edgeRaw W x y r s o := by
  pointwise [edgeProd, k2_pay5, k2_pay2]
  unfold edgeRaw
  congr 1
  · refine Finset.sum_congr rfl fun j _ => ?_
    rw [h.we, h.bp]
    unfold posOf
    congr 2
    refine Finset.sum_congr rfl fun v _ => ?_
    rw [class_col x0 x1 e r s h.own.at_num h.nb.at_num, h.wp]
  · refine Finset.sum_congr rfl fun k _ => ?_
    rw [h.we, T.mu_at]
    have hd := dist_at T (fun l => x1 (ix2 ⟨e.1 / 48, by omega⟩ l)) (fun l => x0 (ix2 e l)) h.own h.nb k
    simp only [centre_row]
    rw [hd]
    unfold radial away
    rw [zero_sub]

/-- The block at a row and a column. -/
theorem edgeOf_at (T : IsTables sa sb gs ex mu) (h : IsEdge W x y r s e x0 x1 x2 x3 x9) (x10 x11 : S1x128.Idx → EReal)
    (h10 : ∀ o, x10 (ix2 0 o) = W.gamma o) (h11 : ∀ o, x11 (ix2 0 o) = W.beta o) (o : Fin 128) :
    edgeOf (F := Ideal) x0 x1 x2 x3 sa sb gs ex mu x9 x10 x11 (ix2 e o) = edge W x y r s o := by
  have hs : edgeSum (F := Ideal) x0 x1 x2 x3 sa sb gs ex mu x9 (ix2 e 0) = ∑ k, edgeRaw W x y r s k := by
    have : edgeSum (F := Ideal) x0 x1 x2 x3 sa sb gs ex mu x9 (ix2 e 0) = ∑ k, edgeProd (F := Ideal) x0 x1 x2 x3 sa sb gs ex mu x9 (ix2 e k) := by
      unfold edgeSum edgeProd
      pointwise [k2_pay6]
    rw [this]
    exact Finset.sum_congr rfl fun k _ => edgeProd_at T h k
  unfold edgeOf
  pointwise [k2_pay1]
  simp only [edgeProd_at T h, hs, h10, h11]
  rfl

end

end Cert.Proof

end
-- ==== Proof.AtomsValue.lean ====
/-
  The atoms table, read at a row over the extended reals.
-/
module

public import proofs.«01_k».proof.Proof.EdgeValue

@[expose] public section

noncomputable section

namespace Cert.Proof

open Idealize.ShloMosaic Cert.KernelIdeal Cert.KernelIdeal.Gen

section
variable (x : S4096x12.Idx → EReal) (i : Fin 4096) (X : Residue)

theorem cb_x (h : ∀ (a : Fin 4) (c : Fin 3), x (ix2 i ⟨3 * a.1 + c.1, by omega⟩) = X a c) :
    k0_pay13 (F := Ideal) x (ix2 i 0) = cbOf X 0 := by
  pointwise [k0_pay13, k0_pay8, k0_pay9, k0_pay12, k0_pay11, k0_pay7, k0_pay10, k0_pay4, k0_pay3, k0_pay5, k0_pay6]
  unfold cbOf crossOf
  simp only [← h]
  rfl
theorem cb_y (h : ∀ (a : Fin 4) (c : Fin 3), x (ix2 i ⟨3 * a.1 + c.1, by omega⟩) = X a c) :
    k0_pay14 (F := Ideal) x (ix2 i 0) = cbOf X 1 := by
  pointwise [k0_pay14, k0_pay8, k0_pay9, k0_pay12, k0_pay11, k0_pay7, k0_pay10, k0_pay4, k0_pay3, k0_pay5, k0_pay6]
  unfold cbOf crossOf
  simp only [← h]
  rfl
theorem cb_z (h : ∀ (a : Fin 4) (c : Fin 3), x (ix2 i ⟨3 * a.1 + c.1, by omega⟩) = X a c) :
    k0_pay1 (F := Ideal) (k0_pay6 x) (k0_pay12 x) (k0_pay15 x) (Scalar.ofBits .f32 0x3F0A69A8#32) (ix2 i 0) = cbOf X 2 := by
  pointwise [k0_pay1, k0_pay15, k0_pay8, k0_pay9, k0_pay12, k0_pay11, k0_pay7, k0_pay10, k0_pay4, k0_pay3, k0_pay5, k0_pay6]
  unfold cbOf crossOf
  simp only [← h]
  rfl

/-- Row `i` of the table holds residue `i`'s atoms and number. -/
theorem atomsOf_row (rr : S4096x1.Idx → EReal) (r : ℕ) (h : ∀ (a : Fin 4) (c : Fin 3), x (ix2 i ⟨3 * a.1 + c.1, by omega⟩) = X a c)
    (hr : rr (ix2 i 0) = ((r : ℝ) : EReal)) : IsRow (fun l => atomsOf (F := Ideal) x rr (ix2 i l)) X r where
  at_num := by
    show k0_pay2 (F := Ideal) rr (ix2 i 0) = _
    pointwise [k0_pay2]
    exact hr
  at_atom a c := by
    show atomsCol (F := Ideal) x rr i ⟨3 * a.1 + c.1, by omega⟩ = _
    unfold atom atomsCol
    by_cases ha : a.1 < 4
    · rw [dif_pos ha, dif_pos (by show 3 * a.1 + c.1 < 12; omega), ← h ⟨a.1, ha⟩ c]
      pointwise [k0_pay3]
    · obtain rfl : a = 4 := Fin.ext (by show a.1 = 4; omega)
      rw [dif_neg ha, dif_neg (by show ¬ 12 + c.1 < 12; omega)]
      match c with
      | 0 => exact cb_x x i X h
      | 1 => exact cb_y x i X h
      | 2 => exact cb_z x i X h

end

end Cert.Proof

end
-- ==== Proof.Words.lean ====
/-
  The four 0/1 tables of the program, as words: which entry is one.
-/
module

public import proofs.«01_k».proof.Proof.Setup
public import proofs.«01_k».proof.Proof.Spec

@[expose] public section
noncomputable section
namespace Cert.Proof
open Idealize.ShloMosaic Cert.KernelIdeal Cert.KernelIdeal.Gen

theorem sa_word : ∀ (k : Fin 16) (t : Fin 75), lit0 ⟨k.1 * 75 + t.1, by omega⟩
    = if k.1 = 3 * (pairA ⟨t.1 / 3, by omega⟩).1 + t.1 % 3 then 0x3F800000#32 else 0#32 := by decide +kernel
theorem sb_word : ∀ (k : Fin 16) (t : Fin 75), lit1 ⟨k.1 * 75 + t.1, by omega⟩
    = if k.1 = 3 * (pairB ⟨t.1 / 3, by omega⟩).1 + t.1 % 3 then 0x3F800000#32 else 0#32 := by decide +kernel
theorem gs_word : ∀ (t : Fin 75) (p : Fin 25), lit2 ⟨t.1 * 25 + p.1, by omega⟩
    = if t.1 / 3 = p.1 then 0x3F800000#32 else 0#32 := by decide +kernel
theorem ex_word : ∀ (p : Fin 25) (k : Fin 400), lit3 ⟨p.1 * 400 + k.1, by omega⟩
    = if k.1 / 16 = p.1 then 0x3F800000#32 else 0#32 := by decide +kernel
end Cert.Proof
end
-- ==== Proof.KernelArrays.lean ====
/-
  The arrays between the program's calls, read at an index over the extended reals: the atoms table after the first
  call, the neighbours' rows after the second, the weights and tables when the third starts.
-/
module

public import proofs.«01_k».proof.Proof.Keep
public import proofs.«01_k».proof.Proof.AtomsValue
public import proofs.«01_k».proof.Proof.Words
public import Idealize.ShloMosaic.Lib.StableHlo.ReadAt
public import Idealize.ShloMosaic.Lib.Pipeline.ValueKit
public import Idealize.ShloMosaic.Lib.Pipeline.Frame

@[expose] public section

set_option maxRecDepth 16384

noncomputable section

namespace Cert.Proof

open Cert.KernelIdeal Cert.KernelIdeal.Gen
open Idealize.ShloMosaic
open Idealize.ShloMosaic.TcCoe
open Idealize.ShloMosaic.StableHlo (after)
open Idealize.ShloMosaic.Pipeline (arrRef afterRegion)

variable (m : (ℓ : Loc nD τ sig) → Buf (Elt Ideal) ℓ) (d : Dev nD)

/-! ## Before the first call -/

theorem v0_at (i : Fin 4096) (a : Fin 4) (c : Fin 3) :
    V1 m d (Proc.devRef .tc main_v0) (ix2 i ⟨3 * a.1 + c.1, by omega⟩) = residue (m (d, Proc.devRef .tc main_arg0)) i a c := by
  unfold V1 opsA
  after_reads_at
  rfl

theorem v2_at (i : Fin 4096) :
    V1 m d (Proc.devRef .tc main_v2) (ix2 i 0) = ((((m (d, Proc.devRef .tc main_arg1) : S4x1024.Idx → BitVec 32) (ix2 ⟨i.1 / 1024, by omega⟩ ⟨i.1 % 1024, by omega⟩)).toInt : ℝ) : EReal) := by
  unfold V1 opsA
  after_reads_at
  rfl

theorem index0 : ∀ t : Fin cfg0.N, (win0_0.index t 0 = 0 ∧ win0_0.index t 1 = 0) ∧ (win0_1.index t 0 = 0 ∧ win0_1.index t 1 = 0) ∧ win0_2.index t 0 = 0 ∧ win0_2.index t 1 = 0 := by
  decide +kernel
theorem emb0_2 (t : Fin cfg0.N) (y : ((cfg0.win 2).xblock (cfg0.grid.coords t)).Idx) : ((win0_2.blk t).view.emb y : S4096x16.Idx) = y := by
  obtain ⟨-, -, h0, h1⟩ := index0 t
  blk_ext [h0, h1]
theorem blk0_0 (W : Dev nD → Valuation τ sig (Elt Ideal)) (t : Fin cfg0.N) : blk0 W d 0 t = W d (Proc.devRef .tc main_v0) := by
  obtain ⟨⟨h0, h1⟩, -, -⟩ := index0 t
  funext y
  unfold blk0
  blk_simp
  congr 1
  blk_ext [h0, h1]
theorem blk0_1 (W : Dev nD → Valuation τ sig (Elt Ideal)) (t : Fin cfg0.N) : blk0 W d 1 t = W d (Proc.devRef .tc main_v2) := by
  obtain ⟨-, ⟨h0, h1⟩, -⟩ := index0 t
  funext y
  unfold blk0
  blk_simp
  congr 1
  blk_ext [h0, h1]

theorem v3_eq : V2 m d (Proc.devRef .tc main_v3) = atomsOf (F := Ideal) (V1 m d (Proc.devRef .tc main_v0)) (V1 m d (Proc.devRef .tc main_v2)) := by
  refine (Pipeline.afterRegion_arr (pdats0 (V1 m) 0 d) (V1 m d) (by decide) 2).trans ?_
  refine (dat0 (V1 m) d).arrAt_eq_of_covers 2 _ (by decide +kernel) fun t hf y => ?_
  blk_simp
  rw [emb0_2]
  show atomsOf (F := Ideal) (blk0 (V1 m) d 0 t) (blk0 (V1 m) d 1 t) y = _
  rw [blk0_0, blk0_1]

/-! ## The third call's operands -/

/-- A property of each of the four 0/1 tables. -/
theorem forall_tables {p : Ref sig .tc → Prop} (h0 : p main_cst) (h1 : p main_cst_0) (h2 : p main_cst_1) (h3 : p main_cst_2) :
    ∀ r ∈ [main_cst, main_cst_0, main_cst_1, main_cst_2], p r := by
  intro r hr
  simp only [List.mem_cons, List.not_mem_nil, or_false] at hr
  rcases hr with rfl | rfl | rfl | rfl <;> assumption

/-- The 0/1 tables, written before the first call, are as they were. -/
theorem keep_table (r : Ref sig .tc) (hr : r ∈ [main_cst, main_cst_0, main_cst_1, main_cst_2]) :
    V4 m d (Proc.devRef .tc r) = V1 m d (Proc.devRef .tc r) := by
  have h4 : ∀ r ∈ [main_cst, main_cst_0, main_cst_1, main_cst_2], V4 m d (Proc.devRef .tc r) = V3 m d (Proc.devRef .tc r) := by
    apply forall_tables <;> exact Function.update_of_ne (by decide) _ _
  have h3 : ∀ r ∈ [main_cst, main_cst_0, main_cst_1, main_cst_2], V3 m d (Proc.devRef .tc r) = V2 m d (Proc.devRef .tc r) := by
    intro r hr
    refine StableHlo.after_of_forall_not_mem opsB _ ?_
    revert r
    apply forall_tables <;>
    · refine List.forall_iff_forall_mem.mp ?_
      unfold opsB
      exact (fun h => absurd (Finset.mem_singleton.mp h) (by decide))
  have h2 : V2 m d (Proc.devRef .tc r) = V1 m d (Proc.devRef .tc r) := by
    have h : ∀ r ∈ [main_cst, main_cst_0, main_cst_1, main_cst_2], ∀ w : Fin 3, r ≠ arrRef spec0 w := by decide
    exact Pipeline.afterRegion_of_not_arr _ _ (h r hr)
  exact (h4 r hr).trans ((h3 r hr).trans h2)

/-- The edge call's table of atoms is the first call's result. -/
theorem atoms_kept : V5 m d (Proc.devRef .tc main_v3) = V2 m d (Proc.devRef .tc main_v3) := by
  have h5 : V5 m d (Proc.devRef .tc main_v3) = V4 m d (Proc.devRef .tc main_v3) := by
    refine StableHlo.after_of_forall_not_mem opsC _ ?_
    refine List.forall_iff_forall_mem.mp ?_
    unfold opsC
    simp only [List.Forall]
    repeat' apply And.intro
    all_goals exact (fun h => absurd (Finset.mem_singleton.mp h) (by decide))
  have h3 : V3 m d (Proc.devRef .tc main_v3) = V2 m d (Proc.devRef .tc main_v3) := by
    refine StableHlo.after_of_forall_not_mem opsB _ ?_
    refine List.forall_iff_forall_mem.mp ?_
    unfold opsB
    exact (fun h => absurd (Finset.mem_singleton.mp h) (by decide))
  exact h5.trans ((Function.update_of_ne (by decide) _ _).trans h3)

/-- The neighbours' rows are the rows of that table which the list names. -/
theorem rows_kept : V5 m d (Proc.devRef .tc main_v5) = rowsOf (V2 m d (Proc.devRef .tc main_v3)) (shapeCast S196608 (m (d, Proc.devRef .tc main_arg2)) shapeCasts_S4096x48_S196608) := by
  have h5 : V5 m d (Proc.devRef .tc main_v5) = V4 m d (Proc.devRef .tc main_v5) := by
    refine StableHlo.after_of_forall_not_mem opsC _ ?_
    refine List.forall_iff_forall_mem.mp ?_
    unfold opsC
    simp only [List.Forall]
    repeat' apply And.intro
    all_goals exact (fun h => absurd (Finset.mem_singleton.mp h) (by decide))
  have h3 : V3 m d (Proc.devRef .tc main_v3) = V2 m d (Proc.devRef .tc main_v3) := by
    refine StableHlo.after_of_forall_not_mem opsB _ ?_
    refine List.forall_iff_forall_mem.mp ?_
    unfold opsB
    exact (fun h => absurd (Finset.mem_singleton.mp h) (by decide))
  refine h5.trans ((Function.update_self _ _ _).trans ?_)
  rw [tabs_E]
  exact congrArg (fun A => rowsOf A _) h3

theorem ones (w : BitVec 32) (p : Prop) [Decidable p] (h : w = if p then 0x3F800000#32 else 0#32) : (FloatOps.ofBits (F := Ideal) .f32 w : EReal) = if p then 1 else 0 := by
  rw [h]
  split
  · exact Ideal.ofBits_one_f32
  · exact Ideal.ofBits_zero_f32

theorem cst_at (k : Fin 16) (t : Fin 75) : (V1 m d (Proc.devRef .tc main_cst) : S16x75.Idx → EReal) (ix2 k t) = FloatOps.ofBits (F := Ideal) .f32 (lit0 ⟨k.1 * 75 + t.1, by omega⟩) := by
  unfold V1 opsA
  after_reads_at
  exact congrArg (fun i => FloatOps.ofBits (F := Ideal) .f32 (lit0 i)) (Fin.ext (Shape.rowMajor_val_two _))
theorem cst0_at (k : Fin 16) (t : Fin 75) : (V1 m d (Proc.devRef .tc main_cst_0) : S16x75.Idx → EReal) (ix2 k t) = FloatOps.ofBits (F := Ideal) .f32 (lit1 ⟨k.1 * 75 + t.1, by omega⟩) := by
  unfold V1 opsA
  after_reads_at
  exact congrArg (fun i => FloatOps.ofBits (F := Ideal) .f32 (lit1 i)) (Fin.ext (Shape.rowMajor_val_two _))
theorem cst1_at (t : Fin 75) (p : Fin 25) : (V1 m d (Proc.devRef .tc main_cst_1) : S75x25.Idx → EReal) (ix2 t p) = FloatOps.ofBits (F := Ideal) .f32 (lit2 ⟨t.1 * 25 + p.1, by omega⟩) := by
  unfold V1 opsA
  after_reads_at
  exact congrArg (fun i => FloatOps.ofBits (F := Ideal) .f32 (lit2 i)) (Fin.ext (Shape.rowMajor_val_two _))
theorem cst2_at (p : Fin 25) (k : Fin 400) : (V1 m d (Proc.devRef .tc main_cst_2) : S25x400.Idx → EReal) (ix2 p k) = FloatOps.ofBits (F := Ideal) .f32 (lit3 ⟨p.1 * 400 + k.1, by omega⟩) := by
  unfold V1 opsA
  after_reads_at
  exact congrArg (fun i => FloatOps.ofBits (F := Ideal) .f32 (lit3 i)) (Fin.ext (Shape.rowMajor_val_two _))

/-- The host's operations up to the centres' sixteen numbers. -/
def opsC1 {F : FTy → Type} [FloatOps F] : List (HloOp τ sig (Elt F)) :=
  [StableHlo.unary main_arg3 main_v6 ((transpose S66x16 [1, 0] · transposes_S16x66_S66x16_1_0) : (⟨S16x66, .f32⟩ : BufTy).Contents (Elt F) → (⟨S66x16, .f32⟩ : BufTy).Contents (Elt F)),
   StableHlo.reshape main_arg4 main_v7 (rfl : (.f32 : EltTy) = .f32) shapeCasts_S16_S1x16,
   StableHlo.nullary main_cst_3 (constant S_ .f32 0x40000000#32),
   StableHlo.nullary main_cst_4 (constant S_ .f32 0x41B00000#32),
   StableHlo.TRef.unary (.of main_cst_3 : StableHlo.TRef sig ⟨S_, .f32⟩) main_call0.v0 id,
   StableHlo.TRef.unary (.of main_cst_4 : StableHlo.TRef sig ⟨S_, .f32⟩) main_call0.v1 id,
   StableHlo.TRef.binary main_call0.v1 main_call0.v0 main_call0.v2 subf,
   StableHlo.TRef.nullary main_call0.cst (constant S_ .f32 0x41700000#32),
   StableHlo.TRef.binary main_call0.v2 main_call0.cst main_call0.v3 Host.divf,
   StableHlo.TRef.nullary main_call0.v4 (sitofp .f32 (iotaInDim S15 32 0)),
   StableHlo.TRef.nullary main_call0.cst_0 (constant S_ .f32 0x41700000#32),
   StableHlo.TRef.unary main_call0.cst_0 main_call0.v5 (broadcastInDim S15 ![] bcast_S_S15),
   StableHlo.TRef.binary main_call0.v4 main_call0.v5 main_call0.v6 Host.divf,
   StableHlo.TRef.reshape main_call0.v0 main_call0.v7 (rfl : (.f32 : EltTy) = .f32) shapeCasts_S_S1,
   StableHlo.TRef.nullary main_call0.cst_1 (constant S_ .f32 0x3F800000#32),
   StableHlo.TRef.unary main_call0.cst_1 main_call0.v8 (broadcastInDim S15 ![] bcast_S_S15),
   StableHlo.TRef.binary main_call0.v8 main_call0.v6 main_call0.v9 subf,
   StableHlo.TRef.unary main_call0.v7 main_call0.v10 (broadcastInDim S15 ![0] bcast_S1_S15_0),
   StableHlo.TRef.binary main_call0.v10 main_call0.v9 main_call0.v11 mulf,
   StableHlo.TRef.reshape main_call0.v1 main_call0.v12 (rfl : (.f32 : EltTy) = .f32) shapeCasts_S_S1,
   StableHlo.TRef.unary main_call0.v12 main_call0.v13 (broadcastInDim S15 ![0] bcast_S1_S15_0),
   StableHlo.TRef.binary main_call0.v13 main_call0.v6 main_call0.v14 mulf,
   StableHlo.TRef.binary main_call0.v11 main_call0.v14 main_call0.v15 addf,
   StableHlo.TRef.unary main_call0.v1 main_call0.v16 (broadcastInDim S1 ![] bcast_S_S1),
   StableHlo.TRef.binary main_call0.v15 main_call0.v16 main_call0.v17 (fun a b => concatenate S16 0 [⟨S15, a⟩, ⟨S1, b⟩] concatenates_S15_S1_S16_d0)]

/-- The host's operations after them. -/
def opsC2 {F : FTy → Type} [FloatOps F] : List (HloOp τ sig (Elt F)) :=
  [StableHlo.reshape main_v8 main_v9 (rfl : (.f32 : EltTy) = .f32) shapeCasts_S16_S1x16,
   StableHlo.unary main_v9 main_v10 (broadcastInDim S25x16 ![0, 1] bcast_S1x16_S25x16_0_1 : (⟨S1x16, .f32⟩ : BufTy).Contents (Elt F) → (⟨S25x16, .f32⟩ : BufTy).Contents (Elt F)),
   StableHlo.reshape main_v10 main_v11 (rfl : (.f32 : EltTy) = .f32) shapeCasts_S25x16_S400,
   StableHlo.reshape main_v11 main_v12 (rfl : (.f32 : EltTy) = .f32) shapeCasts_S400_S1x400,
   StableHlo.unary main_arg5 main_v13 ((transpose S416x128 [1, 0] · transposes_S128x416_S416x128_1_0) : (⟨S128x416, .f32⟩ : BufTy).Contents (Elt F) → (⟨S416x128, .f32⟩ : BufTy).Contents (Elt F)),
   StableHlo.reshape main_arg6 main_v14 (rfl : (.f32 : EltTy) = .f32) shapeCasts_S128_S1x128,
   StableHlo.reshape main_arg7 main_v15 (rfl : (.f32 : EltTy) = .f32) shapeCasts_S128_S1x128]

theorem opsC_eq : opsC (F := Ideal) = opsC1 ++ opsC2 := rfl

/-- The sixteen centres. -/
theorem sixteen_at (V : Valuation τ sig (Elt Ideal)) (q : Fin 16) : (after opsC1 V (Proc.devRef .tc main_v8) : S16.Idx → EReal) (ix1 q) = centre q := by
  simp only [opsC1, StableHlo.TRef.binary, StableHlo.TRef.nullary, StableHlo.TRef.unary, StableHlo.TRef.reshape, StableHlo.TRef.toBuf, StableHlo.TRef.ofBuf, cast_eq]
  after_results_simp
  clean_types
  pointwise
  rfl

/-- The radial functions' centres, repeated for every pair. -/
theorem centres_at (k : Fin 400) : (V5 m d (Proc.devRef .tc main_v12) : S1x400.Idx → EReal) (ix2 0 k) = centre ⟨k.1 % 16, by omega⟩ := by
  unfold V5
  rw [opsC_eq, StableHlo.after_append, ← sixteen_at (V4 m d)]
  generalize after opsC1 (V4 m d) = V
  unfold opsC2
  after_reads_at

/-- The edge call's operands that the host writes before the first call keep their contents. -/
theorem table_kept (r : Ref sig .tc) (hr : r ∈ [main_cst, main_cst_0, main_cst_1, main_cst_2]) :
    V5 m d (Proc.devRef .tc r) = V1 m d (Proc.devRef .tc r) := by
  refine Eq.trans ?_ (keep_table m d r hr)
  refine StableHlo.after_of_forall_not_mem opsC _ ?_
  revert r
  apply forall_tables <;>
  · refine List.forall_iff_forall_mem.mp ?_
    unfold opsC
    simp only [List.Forall]
    repeat' apply And.intro
    all_goals exact (fun h => absurd (Finset.mem_singleton.mp h) (by decide))

theorem tables_at : IsTables (V5 m d (Proc.devRef .tc main_cst)) (V5 m d (Proc.devRef .tc main_cst_0)) (V5 m d (Proc.devRef .tc main_cst_1))
    (V5 m d (Proc.devRef .tc main_cst_2)) (V5 m d (Proc.devRef .tc main_v12)) where
  sa_at k t := by
    rw [table_kept m d main_cst (by simp)]
    exact (cst_at m d k t).trans (ones _ _ (sa_word k t))
  sb_at k t := by
    rw [table_kept m d main_cst_0 (by simp)]
    exact (cst0_at m d k t).trans (ones _ _ (sb_word k t))
  gs_at t p := by
    rw [table_kept m d main_cst_1 (by simp)]
    exact (cst1_at m d t p).trans (ones _ _ (gs_word t p))
  ex_at p k := by
    rw [table_kept m d main_cst_2 (by simp)]
    exact (cst2_at m d p k).trans (ones _ _ (ex_word p k))
  mu_at := centres_at m d

theorem wp_at (v : Fin 66) (j : Fin 16) : (V5 m d (Proc.devRef .tc main_v6) : S66x16.Idx → EReal) (ix2 v j) = (m (d, Proc.devRef .tc main_arg3) : S16x66.Idx → EReal) (ix2 j v) := by
  rw [← keep4' m d main_arg3 (by simp [argRefs])]
  unfold V5 opsC
  after_reads_at
theorem bp_at (j : Fin 16) : (V5 m d (Proc.devRef .tc main_v7) : S1x16.Idx → EReal) (ix2 0 j) = (m (d, Proc.devRef .tc main_arg4) : S16.Idx → EReal) (ix1 j) := by
  rw [← keep4' m d main_arg4 (by simp [argRefs])]
  unfold V5 opsC
  after_reads_at
theorem we_at (k : Fin 416) (o : Fin 128) : (V5 m d (Proc.devRef .tc main_v13) : S416x128.Idx → EReal) (ix2 k o) = (m (d, Proc.devRef .tc main_arg5) : S128x416.Idx → EReal) (ix2 o k) := by
  rw [← keep4' m d main_arg5 (by simp [argRefs])]
  unfold V5 opsC
  after_reads_at
theorem gamma_at (o : Fin 128) : (V5 m d (Proc.devRef .tc main_v14) : S1x128.Idx → EReal) (ix2 0 o) = (m (d, Proc.devRef .tc main_arg6) : S128.Idx → EReal) (ix1 o) := by
  rw [← keep4' m d main_arg6 (by simp [argRefs])]
  unfold V5 opsC
  after_reads_at
theorem beta_at (o : Fin 128) : (V5 m d (Proc.devRef .tc main_v15) : S1x128.Idx → EReal) (ix2 0 o) = (m (d, Proc.devRef .tc main_arg7) : S128.Idx → EReal) (ix1 o) := by
  rw [← keep4' m d main_arg7 (by simp [argRefs])]
  unfold V5 opsC
  after_reads_at

end Cert.Proof

end
-- ==== Proof.KernelResult.lean ====
/-
  What the kernel's run ends with, over the extended reals: the features of every residue's edges.
-/
module

public import proofs.«01_k».proof.Proof.KernelArrays
public import proofs.«01_k».proof.Proof.EdgeValue

@[expose] public section

set_option maxRecDepth 16384

noncomputable section

namespace Cert.Proof

open Cert.KernelIdeal Cert.KernelIdeal.Gen
open Idealize.ShloMosaic
open Idealize.ShloMosaic.TcCoe
open Idealize.ShloMosaic.StableHlo (after)
open Idealize.ShloMosaic.Pipeline (arrRef afterRegion)

variable (m : (ℓ : Loc nD τ sig) → Buf (Elt Ideal) ℓ) (d : Dev nD)

/-! ## The edge call's blocks -/

/-- The blocks of the neighbours' rows, of the residues' own rows and of the result follow the grid point. -/
theorem index2_rows : ∀ t : Fin cfg2.N, (win2_0.index t 0 = t.1 ∧ win2_0.index t 1 = 0) ∧ (win2_1.index t 0 = t.1 ∧ win2_1.index t 1 = 0)
    ∧ win2_12.index t 0 = t.1 ∧ win2_12.index t 1 = 0 := by
  decide +kernel

/-- The other blocks are whole arrays. -/
theorem index2_whole : ∀ t : Fin cfg2.N, (win2_2.index t 0 = 0 ∧ win2_2.index t 1 = 0) ∧ (win2_3.index t 0 = 0 ∧ win2_3.index t 1 = 0)
    ∧ (win2_4.index t 0 = 0 ∧ win2_4.index t 1 = 0) ∧ (win2_5.index t 0 = 0 ∧ win2_5.index t 1 = 0)
    ∧ (win2_6.index t 0 = 0 ∧ win2_6.index t 1 = 0) ∧ (win2_7.index t 0 = 0 ∧ win2_7.index t 1 = 0)
    ∧ (win2_8.index t 0 = 0 ∧ win2_8.index t 1 = 0) ∧ (win2_9.index t 0 = 0 ∧ win2_9.index t 1 = 0)
    ∧ (win2_10.index t 0 = 0 ∧ win2_10.index t 1 = 0) ∧ (win2_11.index t 0 = 0 ∧ win2_11.index t 1 = 0) := by
  decide +kernel

variable (W : Dev nD → Valuation τ sig (Elt Ideal)) (t : Fin cfg2.N)

theorem N2 : cfg2.N = 256 := by decide +kernel

theorem blk2_0 (e : Fin 768) (l : Fin 16) : (blk2 W d 0 t : S768x16.Idx → EReal) (ix2 e l) = (W d (Proc.devRef .tc main_v5) : S196608x16.Idx → EReal) (ix2 ⟨t.1 * 768 + e.1, by have := t.2; have := N2; omega⟩ l) := by
  obtain ⟨⟨h0, h1⟩, -, -⟩ := index2_rows t
  unfold blk2
  blk_simp
  congr 1
  blk_ext [h0, h1]
theorem blk2_1 (e : Fin 16) (l : Fin 16) : (blk2 W d 1 t : S16x16.Idx → EReal) (ix2 e l) = (W d (Proc.devRef .tc main_v3) : S4096x16.Idx → EReal) (ix2 ⟨t.1 * 16 + e.1, by have := t.2; have := N2; omega⟩ l) := by
  obtain ⟨-, ⟨h0, h1⟩, -⟩ := index2_rows t
  unfold blk2
  blk_simp
  congr 1
  blk_ext [h0, h1]
theorem emb2_12 (e : Fin 768) (o : Fin 128) : ((win2_12.blk t).view.emb (ix2 e o) : S196608x128.Idx) = ix2 ⟨t.1 * 768 + e.1, by have := t.2; have := N2; omega⟩ o := by
  obtain ⟨-, -, h0, h1⟩ := index2_rows t
  blk_ext [h0, h1]
theorem blk2_2 : blk2 W d 2 t = W d (Proc.devRef .tc main_v6) := by
  obtain ⟨⟨h0, h1⟩, -⟩ := index2_whole t
  funext y
  unfold blk2
  blk_simp
  congr 1
  blk_ext [h0, h1]
theorem blk2_3 : blk2 W d 3 t = W d (Proc.devRef .tc main_v7) := by
  obtain ⟨-, ⟨h0, h1⟩, -⟩ := index2_whole t
  funext y
  unfold blk2
  blk_simp
  congr 1
  blk_ext [h0, h1]
theorem blk2_4 : blk2 W d 4 t = W d (Proc.devRef .tc main_cst) := by
  obtain ⟨-, -, ⟨h0, h1⟩, -⟩ := index2_whole t
  funext y
  unfold blk2
  blk_simp
  congr 1
  blk_ext [h0, h1]
theorem blk2_5 : blk2 W d 5 t = W d (Proc.devRef .tc main_cst_0) := by
  obtain ⟨-, -, -, ⟨h0, h1⟩, -⟩ := index2_whole t
  funext y
  unfold blk2
  blk_simp
  congr 1
  blk_ext [h0, h1]
theorem blk2_6 : blk2 W d 6 t = W d (Proc.devRef .tc main_cst_1) := by
  obtain ⟨-, -, -, -, ⟨h0, h1⟩, -⟩ := index2_whole t
  funext y
  unfold blk2
  blk_simp
  congr 1
  blk_ext [h0, h1]
theorem blk2_7 : blk2 W d 7 t = W d (Proc.devRef .tc main_cst_2) := by
  obtain ⟨-, -, -, -, -, ⟨h0, h1⟩, -⟩ := index2_whole t
  funext y
  unfold blk2
  blk_simp
  congr 1
  blk_ext [h0, h1]
theorem blk2_8 : blk2 W d 8 t = W d (Proc.devRef .tc main_v12) := by
  obtain ⟨-, -, -, -, -, -, ⟨h0, h1⟩, -⟩ := index2_whole t
  funext y
  unfold blk2
  blk_simp
  congr 1
  blk_ext [h0, h1]
theorem blk2_9 : blk2 W d 9 t = W d (Proc.devRef .tc main_v13) := by
  obtain ⟨-, -, -, -, -, -, -, ⟨h0, h1⟩, -⟩ := index2_whole t
  funext y
  unfold blk2
  blk_simp
  congr 1
  blk_ext [h0, h1]
theorem blk2_10 : blk2 W d 10 t = W d (Proc.devRef .tc main_v14) := by
  obtain ⟨-, -, -, -, -, -, -, -, ⟨h0, h1⟩, -⟩ := index2_whole t
  funext y
  unfold blk2
  blk_simp
  congr 1
  blk_ext [h0, h1]
theorem blk2_11 : blk2 W d 11 t = W d (Proc.devRef .tc main_v15) := by
  obtain ⟨-, -, -, -, -, -, -, -, -, ⟨h0, h1⟩⟩ := index2_whole t
  funext y
  unfold blk2
  blk_simp
  congr 1
  blk_ext [h0, h1]

/-! ## The result -/

/-- The layer's weights as launched. -/
def weightsOf : Weights := weights (m (d, Proc.devRef .tc main_arg3)) (m (d, Proc.devRef .tc main_arg4)) (m (d, Proc.devRef .tc main_arg5))
  (m (d, Proc.devRef .tc main_arg6)) (m (d, Proc.devRef .tc main_arg7))

/-- The features of residue `i`'s edge to its neighbour `k`, of the arrays as launched. -/
def edgeOfRun (i : Fin 4096) (k : Fin 48) (o : Fin 128) : EReal :=
  edgeAt (weightsOf m d) (m (d, Proc.devRef .tc main_arg0)) (m (d, Proc.devRef .tc main_arg1)) (m (d, Proc.devRef .tc main_arg2)) i k o

/-- The residues' numbers are small. -/
def SmallNumbers : Prop := ∀ i : S4x1024.Idx, (show BitVec 32 from m (d, Proc.devRef .tc main_arg1) i).toNat < 4096

theorem toInt_small (w : BitVec 32) (h : w.toNat < 4096) : ((w.toInt : ℝ) : EReal) = (((w.toNat : ℕ) : ℝ) : EReal) := by
  rw [BitVec.toInt_eq_toNat_of_lt (by omega)]
  norm_cast

/-- A row of the table of atoms. -/
theorem atoms_row (hR : SmallNumbers m d) (i : Fin 4096) :
    IsRow (fun l => (V5 m d (Proc.devRef .tc main_v3) : S4096x16.Idx → EReal) (ix2 i l)) (residue (m (d, Proc.devRef .tc main_arg0)) i)
      (number (m (d, Proc.devRef .tc main_arg1)) i) := by
  rw [atoms_kept, v3_eq]
  exact atomsOf_row _ i _ _ _ (fun a c => v0_at m d i a c) ((v2_at m d i).trans (toInt_small _ (hR _)))

/-- A row of the neighbours' table is the atoms' row of the neighbour. -/
theorem rows_row (n : Fin 196608) (l : Fin 16) : (V5 m d (Proc.devRef .tc main_v5) : S196608x16.Idx → EReal) (ix2 n l)
    = (V5 m d (Proc.devRef .tc main_v3) : S4096x16.Idx → EReal) (ix2 (neighbour (m (d, Proc.devRef .tc main_arg2)) ⟨n.1 / 48, by omega⟩ ⟨n.1 % 48, by omega⟩) l) := by
  rw [rows_kept, atoms_kept]
  have h : shapeCast S196608 (m (d, Proc.devRef .tc main_arg2)) shapeCasts_S4096x48_S196608 (ix1 n)
      = (m (d, Proc.devRef .tc main_arg2) : S4096x48.Idx → BitVec 32) (ix2 ⟨n.1 / 48, by omega⟩ ⟨n.1 % 48, by omega⟩) := by
    pointwise
  refine congrArg (fun i => (V2 m d (Proc.devRef .tc main_v3) : S4096x16.Idx → EReal) (ix2 i l)) (Fin.ext ?_)
  exact congrArg (fun w : BitVec 32 => w.toNat % 4096) h

/-- The blocks of a grid point are what the edge body's value asks of them. -/
theorem isEdge (hR : SmallNumbers m d) (t : Fin cfg2.N) (e : Fin 768) (i : Fin 4096) (k : Fin 48) (hi : i.1 = (t.1 * 768 + e.1) / 48) (hk : k.1 = (t.1 * 768 + e.1) % 48) :
    IsEdge (weightsOf m d) (residue (m (d, Proc.devRef .tc main_arg0)) i) (residue (m (d, Proc.devRef .tc main_arg0)) (neighbour (m (d, Proc.devRef .tc main_arg2)) i k))
      (number (m (d, Proc.devRef .tc main_arg1)) i) (number (m (d, Proc.devRef .tc main_arg1)) (neighbour (m (d, Proc.devRef .tc main_arg2)) i k)) e
      (blk2 (V5 m) d 0 t) (blk2 (V5 m) d 1 t) (V5 m d (Proc.devRef .tc main_v6)) (V5 m d (Proc.devRef .tc main_v7)) (V5 m d (Proc.devRef .tc main_v13)) where
  nb := by
    have h := atoms_row m d hR (neighbour (m (d, Proc.devRef .tc main_arg2)) i k)
    have h' : (fun l => (blk2 (V5 m) d 0 t : S768x16.Idx → EReal) (ix2 e l))
        = fun l => (V5 m d (Proc.devRef .tc main_v3) : S4096x16.Idx → EReal) (ix2 (neighbour (m (d, Proc.devRef .tc main_arg2)) i k) l) := by
      funext l
      rw [blk2_0, rows_row]
      congr 2
      exact congrArg₂ (neighbour _) (Fin.ext hi.symm) (Fin.ext hk.symm)
    rw [h']; exact h
  own := by
    have h := atoms_row m d hR i
    have h' : (fun l => (blk2 (V5 m) d 1 t : S16x16.Idx → EReal) (ix2 ⟨e.1 / 48, by omega⟩ l))
        = fun l => (V5 m d (Proc.devRef .tc main_v3) : S4096x16.Idx → EReal) (ix2 i l) := by
      funext l
      rw [blk2_1]
      congr 2
      refine Fin.ext ?_
      rw [hi]
      show t.1 * 16 + e.1 / 48 = _
      omega
    rw [h']; exact h
  wp := fun v j => wp_at m d v j
  bp := fun j => bp_at m d j
  we := fun k o => we_at m d k o

/-- The edges of all residues, one after another. -/
def edgesOf : S196608x128.Idx → EReal := fun j =>
  edgeOfRun m d ⟨(j 0).1 / 48, by have := (j 0).2; change (j 0).1 < 196608 at this; omega⟩ ⟨(j 0).1 % 48, Nat.mod_lt _ (by decide)⟩ (j 1)

theorem v16_eq (hR : SmallNumbers m d) : V6 m d (Proc.devRef .tc main_v16) = edgesOf m d := by
  refine (Pipeline.afterRegion_arr (pdats2 (V5 m) 1 d) (V5 m d) (by decide) 12).trans ?_
  refine (dat2 (V5 m) d).arrAt_eq_of_covers 12 _ (by decide +kernel) fun t hf y => ?_
  blk_simp
  obtain ⟨e, o, rfl⟩ : ∃ (e : Fin 768) (o : Fin 128), y = ix2 e o := ⟨y 0, y 1, eq_ix2 _⟩
  rw [emb2_12]
  show outBlk (V5 m) d t (ix2 e o) = _
  unfold outBlk
  rw [blk2_2, blk2_3, blk2_4, blk2_5, blk2_6, blk2_7, blk2_8, blk2_9, blk2_10, blk2_11]
  exact edgeOf_at (tables_at m d) (isEdge m d hR t e _ _ rfl rfl) _ _ (gamma_at m d) (beta_at m d) o

/-- The kernel's result, at residue `i` of protein `b`. -/
theorem v17_at (hR : SmallNumbers m d) (b : Fin 4) (i : Fin 1024) (k : Fin 48) (o : Fin 128) :
    (V7 m d (Proc.devRef .tc main_v17) : S4x1024x48x128.Idx → EReal) (ix4 b i k o) = edgeOfRun m d ⟨b.1 * 1024 + i.1, by omega⟩ k o := by
  have h : (V7 m d (Proc.devRef .tc main_v17) : S4x1024x48x128.Idx → EReal) (ix4 b i k o)
      = (V6 m d (Proc.devRef .tc main_v16) : S196608x128.Idx → EReal) (ix2 ⟨(b.1 * 1024 + i.1) * 48 + k.1, by omega⟩ o) := by
    unfold V7 opsD
    after_reads_at
    congr 2
    exact Fin.ext (show b.1 * 49152 + i.1 * 48 + k.1 = (b.1 * 1024 + i.1) * 48 + k.1 by omega)
  rw [h, v16_eq m d hR]
  exact congrArg₂ (fun i k => edgeOfRun m d i k o) (Fin.ext (show ((b.1 * 1024 + i.1) * 48 + k.1) / 48 = b.1 * 1024 + i.1 by omega))
    (Fin.ext (show ((b.1 * 1024 + i.1) * 48 + k.1) % 48 = k.1 by omega))

end Cert.Proof

end
-- ==== Proof.RefGather.lean ====
/-
  The reference's three gathers read at an index: two along an inner axis and down the rows of an array of atoms, one
  along an array of words.
-/
module

public import proofs.«01_k».proof.Proof.Gen.ReferenceIdeal
public import Idealize.ShloMosaic.Lib.ValueIdxCore
public import Idealize.ShloMosaic.Lib.Pointwise

@[expose] public section

namespace Cert.Proof

open Idealize.ShloMosaic
open Cert.ReferenceIdeal Cert.ReferenceIdeal.Gen

variable {α : Type}

/-- The pairs' atoms: the middle axis read at the list's entries. -/
theorem gather_pairs (x : S4096x5x3.Idx → α) (idx : IVec S25x1 32) (i : Fin 4096) (p : Fin 25) (c : Fin 3) :
    Host.gather gather_S4096x5x3_S25x1_S4096x25x3_02_1_n_n_1_1_409613 x idx (ix3 i p c)
      = x (ix3 i ⟨min (idx (ix2 p 0)).toInt.toNat 4, by omega⟩ c) := by
  unfold Host.gather
  congr 1
  funext a
  refine Fin.ext ?_
  generalize hG : gather_S4096x5x3_S25x1_S4096x25x3_02_1_n_n_1_1_409613 = G
  show G.start (ix3 i p c) idx a + G.batchCoord (ix3 i p c) a + G.offCoord (ix3 i p c) a = _
  rw [GatherDims.batchCoord_eq_zero _ _ _ (by subst hG; exact List.not_mem_nil)]
  subst hG
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.offCoord
    rw [dif_neg (by decide), dif_pos (by decide), Nat.add_zero, Nat.zero_add]
    refine (congrArg (fun b : Fin 3 => (ix3 i p c b).val) (?_ : _ = (0 : Fin 3))).trans rfl
    decide
  · unfold GatherDims.start GatherDims.offCoord
    rw [dif_pos (by decide), dif_neg (by decide)]
    have h : ∀ k, GatherDims.siIdx gather_S4096x5x3_S25x1_S4096x25x3_02_1_n_n_1_1_409613 (ix3 i p c) k = ix2 p 0 := by
      intro k
      funext b; refine Fin.ext ?_
      match b with
      | ⟨0, _⟩ => rfl
      | ⟨1, _⟩ => exact Nat.lt_one_iff.mp k.2
    rw [h]
    rfl
  · unfold GatherDims.start GatherDims.offCoord
    rw [dif_neg (by decide), dif_pos (by decide), Nat.add_zero, Nat.zero_add]
    refine (congrArg (fun b : Fin 3 => (ix3 i p c b).val) (?_ : _ = (2 : Fin 3))).trans rfl
    decide

/-- The neighbours' atoms: the rows the list names. -/
theorem gather_rows (x : S4096x25x3.Idx → α) (idx : IVec S4096x48x1 32) (i : Fin 4096) (k : Fin 48) (p : Fin 25) (c : Fin 3) :
    Host.gather gather_S4096x25x3_S4096x48x1_S4096x48x25x3_23_0_n_n_0_2_1253 x idx (ix4 i k p c)
      = x (ix3 ⟨min (idx (ix3 i k 0)).toInt.toNat 4095, by omega⟩ p c) := by
  unfold Host.gather
  congr 1
  funext a
  refine Fin.ext ?_
  generalize hG : gather_S4096x25x3_S4096x48x1_S4096x48x25x3_23_0_n_n_0_2_1253 = G
  show G.start (ix4 i k p c) idx a + G.batchCoord (ix4 i k p c) a + G.offCoord (ix4 i k p c) a = _
  rw [GatherDims.batchCoord_eq_zero _ _ _ (by subst hG; exact List.not_mem_nil)]
  subst hG
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.offCoord
    rw [dif_pos (by decide), dif_neg (by decide)]
    have h : ∀ q, GatherDims.siIdx gather_S4096x25x3_S4096x48x1_S4096x48x25x3_23_0_n_n_0_2_1253 (ix4 i k p c) q = ix3 i k 0 := by
      intro q
      funext b; refine Fin.ext ?_
      match b with
      | ⟨0, _⟩ => rfl
      | ⟨1, _⟩ => rfl
      | ⟨2, _⟩ => exact Nat.lt_one_iff.mp q.2
    rw [h]
    rfl
  · unfold GatherDims.start GatherDims.offCoord
    rw [dif_neg (by decide), dif_pos (by decide), Nat.add_zero, Nat.zero_add]
    refine (congrArg (fun b : Fin 4 => (ix4 i k p c b).val) (?_ : _ = (2 : Fin 4))).trans rfl
    decide
  · unfold GatherDims.start GatherDims.offCoord
    rw [dif_neg (by decide), dif_pos (by decide), Nat.add_zero, Nat.zero_add]
    refine (congrArg (fun b : Fin 4 => (ix4 i k p c b).val) (?_ : _ = (3 : Fin 4))).trans rfl
    decide

/-- The neighbours' numbers. -/
theorem gather_words (x : S4096.Idx → α) (idx : IVec S4096x48x1 32) (i : Fin 4096) (k : Fin 48) :
    Host.gather gather_S4096_S4096x48x1_S4096x48_n_0_n_n_0_2_1 x idx (ix2 i k) = x (ix1 ⟨min (idx (ix3 i k 0)).toInt.toNat 4095, by omega⟩) := by
  refine (ValueIdx.gather_take_apply (by decide) gather_S4096_S4096x48x1_S4096x48_n_0_n_n_0_2_1.wf x idx (ix2 i k)).trans ?_
  have h : ValueIdx.takeIdx (ix2 i k) = ix3 i k 0 := by
    funext a
    match a with
    | ⟨0, _⟩ => rfl
    | ⟨1, _⟩ => rfl
    | ⟨2, _⟩ => rfl
  exact congrArg (fun n => x (ix1 n)) (Fin.ext (congrArg (fun q => min (idx q).toInt.toNat 4095) h))

end Cert.Proof
-- ==== Proof.RefValue.lean ====
/-
  The reference's arrays read at an index, over the extended reals.
-/
module

public import proofs.«01_k».proof.Proof.Gen.ReferenceIdeal.Run
public import proofs.«01_k».proof.Proof.RefGather
public import proofs.«01_k».proof.Proof.Numbers
public import Idealize.ShloMosaic.Lib.Pointwise

@[expose] public section

set_option maxRecDepth 16384

noncomputable section

namespace Cert.Proof

open Idealize.ShloMosaic Idealize.ShloMosaic.TcCoe
open Cert.ReferenceIdeal Cert.ReferenceIdeal.Gen Cert.ReferenceIdeal.Value

variable (V : Valuation τ sig (Elt Ideal))

theorem v60_at (i : Fin 4096) (a : Fin 5) (c : Fin 3) :
    (res_main_v60 V : S4096x5x3.Idx → EReal) (ix3 i a c) = atom (residue (V (Proc.devRef .tc main_arg0)) i) a c := by
  pointwise [res_main_v60, res_main_v4, res_main_v9]
  unfold atom
  split
  · rfl
  · unfold cbOf crossOf
    have hc : c = 0 ∨ c = 1 ∨ c = 2 := by
      match c with
      | ⟨0, _⟩ => exact Or.inl rfl
      | ⟨1, _⟩ => exact Or.inr (Or.inl rfl)
      | ⟨2, _⟩ => exact Or.inr (Or.inr rfl)
    rcases hc with rfl | rfl | rfl <;> rfl

/-- The entries of the two lists of atoms. -/
theorem list_a : ∀ p : Fin 25, min (lit0 p).toInt.toNat 4 = (pairA p).1 := by decide +kernel
theorem list_b : ∀ p : Fin 25, min (lit1 p).toInt.toNat 4 = (pairB p).1 := by decide +kernel

/-- A neighbour's row number, read off the list. -/
theorem row_of (e : BitVec 32) (h : e.toNat < 4096) : min e.toInt.toNat 4095 = e.toNat % 4096 := by
  rw [BitVec.toInt_eq_toNat_of_lt (by omega)]
  omega

theorem word_a (p : Fin 25) : broadcastInDim S25x1 ![0] bcast_S25_S25x1_0 (fun i => lit0 (S25.rowMajor i)) (ix2 p 0) = lit0 p := by
  pointwise
  exact congrArg lit0 (Fin.ext (Shape.rowMajor_val_one _))
theorem word_b (p : Fin 25) : broadcastInDim S25x1 ![0] bcast_S25_S25x1_0 (fun i => lit1 (S25.rowMajor i)) (ix2 p 0) = lit1 p := by
  pointwise
  exact congrArg lit1 (Fin.ext (Shape.rowMajor_val_one _))
theorem word_e (E : S4096x48.Idx → BitVec 32) (i : Fin 4096) (k : Fin 48) : broadcastInDim S4096x48x1 ![0, 1] bcast_S4096x48_S4096x48x1_0_1 E (ix3 i k 0) = E (ix2 i k) := by
  pointwise

/-- The neighbour's row, as the gathers read it. -/
theorem row_at (E : S4096x48.Idx → BitVec 32) (hE : ∀ j, (E j).toNat < 4096) (i : Fin 4096) (k : Fin 48) :
    min (broadcastInDim S4096x48x1 ![0, 1] bcast_S4096x48_S4096x48x1_0_1 E (ix3 i k 0)).toInt.toNat 4095 = (neighbour E i k).1 := by
  rw [word_e]
  exact row_of _ (hE _)

variable (hE : ∀ j, (V (Proc.devRef .tc main_arg2) j : BitVec 32).toNat < 4096)
variable (hR : ∀ j, (V (Proc.devRef .tc main_arg1) j : BitVec 32).toNat < 4096)

include hE in
/-- The differences of the pairs' coordinates. -/
theorem v66_at (i : Fin 4096) (k : Fin 48) (p : Fin 25) (c : Fin 3) :
    (res_main_v66 V : S4096x48x25x3.Idx → EReal) (ix4 i k p c) = atom (residue (V (Proc.devRef .tc main_arg0)) i) (pairA p) c
      - atom (residue (V (Proc.devRef .tc main_arg0)) (neighbour (V (Proc.devRef .tc main_arg2)) i k)) (pairB p) c := by
  pointwise [res_main_v66]
  rw [gather_pairs, gather_rows, gather_pairs, v60_at, v60_at]
  refine congrArg₂ (· - ·) ?_ ?_
  · refine congrArg (fun a => atom (residue (V (Proc.devRef .tc main_arg0)) i) a c) (Fin.ext ?_)
    show min (BitVec.toInt _).toNat 4 = _
    rw [word_a]; exact list_a p
  · refine congrArg₂ (fun j a => atom (residue (V (Proc.devRef .tc main_arg0)) j) a c) (Fin.ext ?_) (Fin.ext ?_)
    · exact row_at _ hE i k
    · show min (BitVec.toInt _).toNat 4 = _
      rw [word_b]; exact list_b p

include hE in
/-- The distances from the centres, in widths. -/
theorem v79_at (i : Fin 4096) (k : Fin 48) (p : Fin 25) (q : Fin 16) :
    (res_main_v79 V : S4096x48x25x16.Idx → EReal) (ix4 i k p q) = away (residue (V (Proc.devRef .tc main_arg0)) i)
      (residue (V (Proc.devRef .tc main_arg0)) (neighbour (V (Proc.devRef .tc main_arg2)) i k)) p q := by
  pointwise [res_main_v79, res_main_call3_v0, res_main_call3_v1, res_main_call3_v6]
  simp only [v66_at V hE]
  rfl

include hE hR in
/-- The features times the weights. -/
theorem v100_at (i : Fin 4096) (k : Fin 48) (o : Fin 128) :
    (res_main_v100 V : S4096x48x128.Idx → EReal) (ix3 i k o) = edgeRaw (weights (V (Proc.devRef .tc main_arg3)) (V (Proc.devRef .tc main_arg4)) (V (Proc.devRef .tc main_arg5))
        (V (Proc.devRef .tc main_arg6)) (V (Proc.devRef .tc main_arg7))) (residue (V (Proc.devRef .tc main_arg0)) i)
      (residue (V (Proc.devRef .tc main_arg0)) (neighbour (V (Proc.devRef .tc main_arg2)) i k))
      (number (V (Proc.devRef .tc main_arg1)) i) (number (V (Proc.devRef .tc main_arg1)) (neighbour (V (Proc.devRef .tc main_arg2)) i k)) o := by
  pointwise [res_main_v100, res_main_v84]
  rw [gather_words]
  simp only [v79_at V hE]
  refine congrArg₂ (· + ·) (Finset.sum_congr rfl fun j _ => congrArg (· * _) (congrArg (· + _) (Finset.sum_congr rfl fun v _ => congrArg (· * _) ?_))) rfl
  have hn : shapeCast S4096 (V (Proc.devRef .tc main_arg1)) shapeCasts_S4x1024_S4096 (ix1 ⟨min (broadcastInDim S4096x48x1 ![0, 1] bcast_S4096x48_S4096x48x1_0_1
      (V (Proc.devRef .tc main_arg2)) (ix3 i k 0)).toInt.toNat 4095, by omega⟩)
      = (V (Proc.devRef .tc main_arg1) : S4x1024.Idx → BitVec 32) (ix2 ⟨(neighbour (V (Proc.devRef .tc main_arg2)) i k).1 / 1024, by omega⟩
        ⟨(neighbour (V (Proc.devRef .tc main_arg2)) i k).1 % 1024, by omega⟩) := by
    refine (congrArg (fun n => shapeCast S4096 (V (Proc.devRef .tc main_arg1)) shapeCasts_S4x1024_S4096 (ix1 n)) (Fin.ext (row_at _ hE i k))).trans ?_
    pointwise
  exact (congrArg (fun w => (FloatOps.uitofp (F := Ideal) .f32 (IntOp.cmpi .eq (IntOp.minsi 64#32 (IntOp.maxsi 0#32 (IntOp.addi (IntOp.subi
    ((V (Proc.devRef .tc main_arg1) : S4x1024.Idx → BitVec 32) (ix2 ⟨i.1 / 1024, by omega⟩ ⟨i.1 % 1024, by omega⟩)) w) 32#32))) (BitVec.ofNat 32 v.1)) : EReal)) hn).trans
    (word_class _ _ (hR _) (hR _) v.1 v.2)

/-- The reference's weights. -/
abbrev weightsRef : Weights := weights (V (Proc.devRef .tc main_arg3)) (V (Proc.devRef .tc main_arg4)) (V (Proc.devRef .tc main_arg5))
        (V (Proc.devRef .tc main_arg6)) (V (Proc.devRef .tc main_arg7))

include hE hR in
/-- The reference's result, at residue `i` of protein `b`. -/
theorem v119_at (b : Fin 4) (i : Fin 1024) (k : Fin 48) (o : Fin 128) :
    (shapeCast S4x1024x48x128 (addf (mulf (Host.divf (subf (res_main_v100 V) (broadcastInDim S4096x48x128 ![0, 1, 2] bcast_S4096x48x1_S4096x48x128_0_1_2 (Host.divf (broadcastInDim S4096x48x1 ![0, 1] bcast_S4096x48_S4096x48x1_0_1 (Host.reduceAdd (res_main_v100 V) (constant S_ .f32 0x00000000#32) reducesTo_S4096x48x128_S4096x48_d2 h_S_)) (broadcastInDim S4096x48x1 ![] bcast_S_S4096x48x1 (constant S_ .f32 0x43000000#32))))) (broadcastInDim S4096x48x128 ![0, 1, 2] bcast_S4096x48x1_S4096x48x128_0_1_2 (Host.sqrt (addf (select (broadcastInDim S4096x48x1 ![] bcast_S_S4096x48x1 (cmpf .ogt (res_main_call7_v8 V) (constant S_ .f32 0x00000000#32))) (Host.divf (broadcastInDim S4096x48x1 ![0, 1] bcast_S4096x48_S4096x48x1_0_1 (Host.reduceAdd (mulf (res_main_call7_v5 V) (res_main_call7_v5 V)) (constant S_ .f32 0x00000000#32) reducesTo_S4096x48x128_S4096x48_d2 h_S_)) (broadcastInDim S4096x48x1 ![] bcast_S_S4096x48x1 (res_main_call7_v8 V))) (broadcastInDim S4096x48x1 ![] bcast_S_S4096x48x1 (id (constant S_ .f32 0x7FC00000#32)))) (broadcastInDim S4096x48x1 ![] bcast_S_S4096x48x1 (constant S_ .f32 0x3727C5AC#32)))))) (broadcastInDim S4096x48x128 ![0, 1, 2] bcast_S1x1x128_S4096x48x128_0_1_2 (broadcastInDim S1x1x128 ![2] bcast_S128_S1x1x128_2 (V (Proc.devRef .tc main_arg6))))) (broadcastInDim S4096x48x128 ![0, 1, 2] bcast_S1x1x128_S4096x48x128_0_1_2 (broadcastInDim S1x1x128 ![2] bcast_S128_S1x1x128_2 (V (Proc.devRef .tc main_arg7))))) shapeCasts_S4096x48x128_S4x1024x48x128 : S4x1024x48x128.Idx → EReal) (ix4 b i k o)
      = edgeAt (weightsRef V) (V (Proc.devRef .tc main_arg0)) (V (Proc.devRef .tc main_arg1)) (V (Proc.devRef .tc main_arg2)) ⟨b.1 * 1024 + i.1, by omega⟩ k o := by
  obtain ⟨f, hf⟩ : ∃ f, f = edgeRaw (weightsRef V) (residue (V (Proc.devRef .tc main_arg0)) ⟨b.1 * 1024 + i.1, by omega⟩)
      (residue (V (Proc.devRef .tc main_arg0)) (neighbour (V (Proc.devRef .tc main_arg2)) ⟨b.1 * 1024 + i.1, by omega⟩ k))
      (number (V (Proc.devRef .tc main_arg1)) ⟨b.1 * 1024 + i.1, by omega⟩)
      (number (V (Proc.devRef .tc main_arg1)) (neighbour (V (Proc.devRef .tc main_arg2)) ⟨b.1 * 1024 + i.1, by omega⟩ k)) := ⟨_, rfl⟩
  have hv : ∀ o, (res_main_v100 V : S4096x48x128.Idx → EReal) (ix3 ⟨b.1 * 1024 + i.1, by omega⟩ k o) = f o :=
    fun o => (v100_at V hE hR _ k o).trans (congrFun hf.symm o)
  pointwise [res_main_call7_v5, res_main_call7_v8]
  simp only [hv]
  have hz : (FloatOps.sitofp (F := Ideal) .f32 0#32 : EReal) = 0 := by
    show (((0#32 : BitVec 32).toInt : ℝ) : EReal) = 0
    simp
  have hp : (0 : EReal) < Ideal.ofBits .f32 0x43000000#32 - FloatOps.sitofp (F := Ideal) .f32 0#32 := by
    rw [hz, sub_zero]
    refine lt_of_lt_of_eq ?_ num_128.symm
    exact_mod_cast (by norm_num : (0 : ℝ) < 128)
  rw [if_pos hp, hz, sub_zero]
  unfold edgeAt edge
  rw [← hf]
  rfl

end Cert.Proof

end
-- ==== Proof.Algebraic.lean ====
/-
  The kernel and the reference end with the same features: each result, read at an index, is the same formula of the
  arguments, and the arguments are the same.
-/
module

public import proofs.«01_k».proof.Proof.Frames
public import proofs.«01_k».proof.Proof.KernelResult
public import proofs.«01_k».proof.Proof.RefValue

@[expose] public section

noncomputable section

namespace Cert.Proof

open Idealize.ShloMosaic Idealize.ShloMosaic.TcCoe Idealize.SL.Sem

/-- The features depend on the arrays alone. -/
theorem edgeAt_congr {A A' : (⟨4, ![4, 1024, 4, 3]⟩ : Shape).Idx → EReal} {R R' : (⟨2, ![4, 1024]⟩ : Shape).Idx → BitVec 32}
    {E E' : (⟨2, ![4096, 48]⟩ : Shape).Idx → BitVec 32} {wp wp' : (⟨2, ![16, 66]⟩ : Shape).Idx → EReal} {bp bp' : (⟨1, ![16]⟩ : Shape).Idx → EReal}
    {we we' : (⟨2, ![128, 416]⟩ : Shape).Idx → EReal} {g g' b b' : (⟨1, ![128]⟩ : Shape).Idx → EReal}
    (h0 : A' = A) (h1 : R' = R) (h2 : E' = E) (h3 : wp' = wp) (h4 : bp' = bp) (h5 : we' = we) (h6 : g' = g) (h7 : b' = b)
    (i : Fin 4096) (k : Fin 48) (o : Fin 128) : edgeAt (weights wp' bp' we' g' b') A' R' E' i k o = edgeAt (weights wp bp we g b) A R E i k o := by
  subst h0 h1 h2 h3 h4 h5 h6 h7
  rfl

/-- The value claim. -/
theorem algebraic : Cert.algebraic_KernelIdeal_ReferenceIdeal := by
  intro m g m' g' hpre hargs
  have hr := fun d => ranges _ _ _ _ _ _ _ _ (hpre d)
  refine ⟨fun c => V7 m c (Proc.devRef .tc Cert.KernelIdeal.main_v17), ?_, ?_⟩
  · refine (θ_run Cert.KernelIdeal.defs _ _).mono (fun _ h c => ?_) (run_main m g fun d i => (hr d).2 i)
    have e := arg_end m c (h.1 c)
    exact ⟨h.1 c _ (Pipeline.devRef_mem_ucRefs rfl), e _ (by simp [argRefs]), e _ (by simp [argRefs]), e _ (by simp [argRefs]), e _ (by simp [argRefs]),
      e _ (by simp [argRefs]), e _ (by simp [argRefs]), e _ (by simp [argRefs]), e _ (by simp [argRefs])⟩
  · refine (θ_run Cert.ReferenceIdeal.defs _ _).mono (fun _ h c => ⟨(h c).1.trans ?_, (h c).2⟩) (Cert.ReferenceIdeal.Value.run (F := Ideal) m' g')
    obtain ⟨a0, a1, a2, a3, a4, a5, a6, a7⟩ := hargs c
    funext j
    obtain ⟨b, i, k, o, rfl⟩ : ∃ (b : Fin 4) (i : Fin 1024) (k : Fin 48) (o : Fin 128), j = ix4 b i k o := ⟨j 0, j 1, j 2, j 3, eq_ix4 _⟩
    refine (v119_at (StableHlo.launchContents m' c) (fun j => ?_) (fun j => ?_) b i k o).trans ?_
    · exact lt_of_eq_of_lt (congrArg (fun E : Cert.KernelIdeal.S4096x48.Idx → BitVec 32 => (E j).toNat) a2) ((hr c).2 j)
    · exact lt_of_eq_of_lt (congrArg (fun R : Cert.KernelIdeal.S4x1024.Idx → BitVec 32 => (R j).toNat) a1) ((hr c).1 j)
    · refine Eq.trans ?_ (v17_at m c (fun i => (hr c).1 i) b i k o).symm
      exact edgeAt_congr a0 a1 a2 a3 a4 a5 a6 a7 _ k o

end Cert.Proof

end
-- ==== Proof.Nearest.lean ====
/-
  The call that finds each residue's neighbours, and its reference: every run ends with the arguments unchanged, at
  32-bit words and over the extended reals; and the one constant named is the constant printed.
-/
module

public import proofs.«01_k».proof.Defs
public import proofs.«01_k».proof.Proof.Gen.Neighbours.Frame
public import proofs.«01_k».proof.Proof.Gen.NeighboursIdeal.Frame
public import proofs.«01_k».proof.Proof.Gen.NeighboursReferenceIdeal.Run
public import proofs.«01_k».proof.Proof.Gen.Pre_finite

@[expose] public section

noncomputable section

namespace Cert.Proof

open Idealize.ShloMosaic Idealize.SL.Sem

theorem frame_neighbours : Cert.quiescent_Neighbours := fun m g _ => Cert.Neighbours.Gen.frame m g

theorem frame_neighboursIdeal : Cert.quiescent_NeighboursIdeal := fun m g _ => Cert.NeighboursIdeal.Gen.frame m g

/-- The same claim, stated for finite arguments. -/
theorem frame_neighboursIdeal_finite : Cert.quiescent_NeighboursIdeal_pre_finite :=
  fun m g _ => Cert.NeighboursIdeal.Gen.frame m g

theorem frame_neighboursReference : Cert.quiescent_NeighboursReferenceIdeal := fun m g _ =>
  (θ_run Cert.NeighboursReferenceIdeal.defs _ _).mono
    (fun r h => ⟨fun c => (h c).2, sem_eq_zero_of_no_sems (by decide) r.2⟩)
    (Cert.NeighboursReferenceIdeal.Value.run (F := Ideal) m g)

/-- The same claim, stated for finite arguments. -/
theorem frame_neighboursReference_finite : Cert.quiescent_NeighboursReferenceIdeal_pre_finite := fun m g _ =>
  (θ_run Cert.NeighboursReferenceIdeal.defs _ _).mono
    (fun r h => ⟨fun c => (h c).2, sem_eq_zero_of_no_sems (by decide) r.2⟩)
    (Cert.NeighboursReferenceIdeal.Value.run (F := Ideal) m g)

/-- The mark of a neighbour already taken, 3.0e38, is read as `+∞`. -/
theorem named_taken : Cert.preserves_Neighbours_NeighboursIdeal :=
  IdealRules.named_const.statement Cert.NeighboursIdeal.κ "taken" .f32 0x7F61B1E6#32 ⊤ rfl

end Cert.Proof

end
-- ==== Proof.Rounds.lean ====
/-
  The top-k body as rounds: each of its forty-eight columns is one round's pick, on the block as the earlier rounds
  left it.
-/
module

public import proofs.«01_k».proof.Proof.Gen.NeighboursIdeal.Frame
public import Idealize.ShloMosaic.Lib.Pipeline.Value

@[expose] public section

noncomputable section

namespace Cert.Proof

open Idealize.ShloMosaic Cert.NeighboursIdeal Cert.NeighboursIdeal.Gen

variable {F : FTy → Type} [FloatOps F] [Named F]

/-- One round's picks, a row each. -/
def pickBlock (w : FVec F S128x1024 .f32) : FVec F S128x1 .f32 := k0_pay4 w k0_pay3

/-- The block after one round. -/
def dropBlock (w : FVec F S128x1024 .f32) : FVec F S128x1024 .f32 := k0_pay5 w k0_pay3

/-- The block before round `k`. -/
def blockAt (w : FVec F S128x1024 .f32) : ℕ → FVec F S128x1024 .f32
  | 0 => w
  | k + 1 => dropBlock (blockAt w k)

theorem blockAt_add (w : FVec F S128x1024 .f32) (a b : ℕ) : blockAt (blockAt w a) b = blockAt w (a + b) := by
  induction b with
  | zero => rfl
  | succ b ih => exact congrArg dropBlock ih

/-! ## The pieces of a round that stand at a boundary of the body's parts -/

/-- Which lanes hold their row's least entry. -/
def leastOf (w : FVec F S128x1024 .f32) : IVec S128x1024 1 :=
  cmpf .ole w (broadcastTo S128x1024 (shapeCast S128x1 (multiReduction .minimumf [1] S128 w 0x7F800000#32
    reduces_S128x1024_S128 (.inl rfl) rfl) shapeCasts_S128_S128x1) broadcasts_S128x1_S128x1024)

/-- Those lanes' numbers, and 2048 at the others. -/
def lanesOf (w : FVec F S128x1024 .f32) : FVec F S128x1024 .f32 :=
  select (leastOf w) k0_pay3 (broadcast S128x1024 (Scalar.ofBits .f32 0x45000000#32))

/-- Which lane is picked. -/
def takenOf (w : FVec F S128x1024 .f32) : IVec S128x1024 1 :=
  cmpf .oeq k0_pay3 (broadcastTo S128x1024 (pickBlock w) broadcasts_S128x1_S128x1024)

/-! ## Each value of the body -/

theorem pay4 (w : FVec F S128x1024 .f32) : k0_pay4 w k0_pay3 = pickBlock w := rfl
theorem pay5 (w : FVec F S128x1024 .f32) : k0_pay5 w k0_pay3 = blockAt w 1 := rfl
theorem pay6 (w : FVec F S128x1024 .f32) : k0_pay6 w k0_pay3 = pickBlock (blockAt w 1) := rfl
theorem pay7 (w : FVec F S128x1024 .f32) : k0_pay7 w k0_pay3 = blockAt w 2 := rfl
theorem pay8 (w : FVec F S128x1024 .f32) : k0_pay8 w k0_pay3 = pickBlock (blockAt w 2) := rfl
theorem pay9 (w : FVec F S128x1024 .f32) : k0_pay9 w k0_pay3 = blockAt w 3 := rfl
theorem pay10 (w : FVec F S128x1024 .f32) : k0_pay10 w k0_pay3 = pickBlock (blockAt w 3) := rfl
theorem pay11 (w : FVec F S128x1024 .f32) : k0_pay11 w k0_pay3 = takenOf (blockAt w 3) := rfl
theorem pay12 (w : FVec F S128x1024 .f32) : k0_pay12 w (takenOf w) = blockAt w 1 := rfl
theorem pay13 (w : FVec F S128x1024 .f32) : k0_pay13 k0_pay3 w (takenOf w) = pickBlock (blockAt w 1) := rfl
theorem pay14 (w : FVec F S128x1024 .f32) : k0_pay14 k0_pay3 w (takenOf w) = blockAt w 2 := rfl
theorem pay15 (w : FVec F S128x1024 .f32) : k0_pay15 k0_pay3 w (takenOf w) = pickBlock (blockAt w 2) := rfl
theorem pay16 (w : FVec F S128x1024 .f32) : k0_pay16 k0_pay3 w (takenOf w) = blockAt w 3 := rfl
theorem pay17 (w : FVec F S128x1024 .f32) : k0_pay17 k0_pay3 w (takenOf w) = pickBlock (blockAt w 3) := rfl
theorem pay18 (w : FVec F S128x1024 .f32) : k0_pay18 k0_pay3 w (takenOf w) = blockAt w 4 := rfl
theorem pay19 (w : FVec F S128x1024 .f32) : k0_pay19 k0_pay3 w (takenOf w) = lanesOf (blockAt w 4) := rfl
theorem pay20 (w : FVec F S128x1024 .f32) : k0_pay20 (lanesOf w) = pickBlock w := rfl
theorem pay21 (w : FVec F S128x1024 .f32) : k0_pay21 k0_pay3 w (lanesOf w) = blockAt w 1 := rfl
theorem pay22 (w : FVec F S128x1024 .f32) : k0_pay22 k0_pay3 w (lanesOf w) = pickBlock (blockAt w 1) := rfl
theorem pay23 (w : FVec F S128x1024 .f32) : k0_pay23 k0_pay3 w (lanesOf w) = blockAt w 2 := rfl
theorem pay24 (w : FVec F S128x1024 .f32) : k0_pay24 k0_pay3 w (lanesOf w) = pickBlock (blockAt w 2) := rfl
theorem pay25 (w : FVec F S128x1024 .f32) : k0_pay25 k0_pay3 w (lanesOf w) = blockAt w 3 := rfl
theorem pay26 (w : FVec F S128x1024 .f32) : k0_pay26 k0_pay3 w (lanesOf w) = pickBlock (blockAt w 3) := rfl
theorem pay27 (w : FVec F S128x1024 .f32) : k0_pay27 k0_pay3 w (lanesOf w) = blockAt w 4 := rfl
theorem pay28 (w : FVec F S128x1024 .f32) : k0_pay28 k0_pay3 w (lanesOf w) = leastOf (blockAt w 4) := rfl
theorem pay29 (w : FVec F S128x1024 .f32) : k0_pay29 k0_pay3 (leastOf w) = pickBlock w := rfl
theorem pay30 (w : FVec F S128x1024 .f32) : k0_pay30 k0_pay3 w (leastOf w) = blockAt w 1 := rfl
theorem pay31 (w : FVec F S128x1024 .f32) : k0_pay31 k0_pay3 w (leastOf w) = pickBlock (blockAt w 1) := rfl
theorem pay32 (w : FVec F S128x1024 .f32) : k0_pay32 k0_pay3 w (leastOf w) = blockAt w 2 := rfl
theorem pay33 (w : FVec F S128x1024 .f32) : k0_pay33 k0_pay3 w (leastOf w) = pickBlock (blockAt w 2) := rfl
theorem pay34 (w : FVec F S128x1024 .f32) : k0_pay34 k0_pay3 w (leastOf w) = blockAt w 3 := rfl
theorem pay35 (w : FVec F S128x1024 .f32) : k0_pay35 k0_pay3 w (leastOf w) = pickBlock (blockAt w 3) := rfl
theorem pay36 (w : FVec F S128x1024 .f32) : k0_pay36 k0_pay3 w (leastOf w) = blockAt w 4 := rfl
theorem pay37 (w : FVec F S128x1024 .f32) : k0_pay37 k0_pay3 w = pickBlock w := rfl
theorem pay38 (w : FVec F S128x1024 .f32) : k0_pay38 k0_pay3 w = blockAt w 1 := rfl
theorem pay39 (w : FVec F S128x1024 .f32) : k0_pay39 k0_pay3 w = pickBlock (blockAt w 1) := rfl
theorem pay40 (w : FVec F S128x1024 .f32) : k0_pay40 k0_pay3 w = blockAt w 2 := rfl
theorem pay41 (w : FVec F S128x1024 .f32) : k0_pay41 k0_pay3 w = pickBlock (blockAt w 2) := rfl
theorem pay42 (w : FVec F S128x1024 .f32) : k0_pay42 k0_pay3 w = blockAt w 3 := rfl
theorem pay43 (w : FVec F S128x1024 .f32) : k0_pay43 k0_pay3 w = pickBlock (blockAt w 3) := rfl
theorem pay44 (w : FVec F S128x1024 .f32) : k0_pay44 k0_pay3 w = takenOf (blockAt w 3) := rfl
theorem pay45 (w : FVec F S128x1024 .f32) : k0_pay45 w (takenOf w) = blockAt w 1 := rfl
theorem pay46 (w : FVec F S128x1024 .f32) : k0_pay46 k0_pay3 w (takenOf w) = pickBlock (blockAt w 1) := rfl
theorem pay47 (w : FVec F S128x1024 .f32) : k0_pay47 k0_pay3 w (takenOf w) = blockAt w 2 := rfl
theorem pay48 (w : FVec F S128x1024 .f32) : k0_pay48 k0_pay3 w (takenOf w) = pickBlock (blockAt w 2) := rfl
theorem pay49 (w : FVec F S128x1024 .f32) : k0_pay49 k0_pay3 w (takenOf w) = blockAt w 3 := rfl
theorem pay50 (w : FVec F S128x1024 .f32) : k0_pay50 k0_pay3 w (takenOf w) = pickBlock (blockAt w 3) := rfl
theorem pay51 (w : FVec F S128x1024 .f32) : k0_pay51 k0_pay3 w (takenOf w) = blockAt w 4 := rfl
theorem pay52 (w : FVec F S128x1024 .f32) : k0_pay52 k0_pay3 w (takenOf w) = lanesOf (blockAt w 4) := rfl
theorem pay53 (w : FVec F S128x1024 .f32) : k0_pay53 (lanesOf w) = pickBlock w := rfl
theorem pay54 (w : FVec F S128x1024 .f32) : k0_pay54 k0_pay3 w (lanesOf w) = blockAt w 1 := rfl
theorem pay55 (w : FVec F S128x1024 .f32) : k0_pay55 k0_pay3 w (lanesOf w) = pickBlock (blockAt w 1) := rfl
theorem pay56 (w : FVec F S128x1024 .f32) : k0_pay56 k0_pay3 w (lanesOf w) = blockAt w 2 := rfl
theorem pay57 (w : FVec F S128x1024 .f32) : k0_pay57 k0_pay3 w (lanesOf w) = pickBlock (blockAt w 2) := rfl
theorem pay58 (w : FVec F S128x1024 .f32) : k0_pay58 k0_pay3 w (lanesOf w) = blockAt w 3 := rfl
theorem pay59 (w : FVec F S128x1024 .f32) : k0_pay59 k0_pay3 w (lanesOf w) = pickBlock (blockAt w 3) := rfl
theorem pay60 (w : FVec F S128x1024 .f32) : k0_pay60 k0_pay3 w (lanesOf w) = blockAt w 4 := rfl
theorem pay61 (w : FVec F S128x1024 .f32) : k0_pay61 k0_pay3 w (lanesOf w) = leastOf (blockAt w 4) := rfl
theorem pay62 (w : FVec F S128x1024 .f32) : k0_pay62 k0_pay3 (leastOf w) = pickBlock w := rfl
theorem pay63 (w : FVec F S128x1024 .f32) : k0_pay63 k0_pay3 w (leastOf w) = blockAt w 1 := rfl
theorem pay64 (w : FVec F S128x1024 .f32) : k0_pay64 k0_pay3 w (leastOf w) = pickBlock (blockAt w 1) := rfl
theorem pay65 (w : FVec F S128x1024 .f32) : k0_pay65 k0_pay3 w (leastOf w) = blockAt w 2 := rfl
theorem pay66 (w : FVec F S128x1024 .f32) : k0_pay66 k0_pay3 w (leastOf w) = pickBlock (blockAt w 2) := rfl
theorem pay67 (w : FVec F S128x1024 .f32) : k0_pay67 k0_pay3 w (leastOf w) = blockAt w 3 := rfl
theorem pay68 (w : FVec F S128x1024 .f32) : k0_pay68 k0_pay3 w (leastOf w) = pickBlock (blockAt w 3) := rfl
theorem pay69 (w : FVec F S128x1024 .f32) : k0_pay69 k0_pay3 w (leastOf w) = blockAt w 4 := rfl
theorem pay70 (w : FVec F S128x1024 .f32) : k0_pay70 k0_pay3 w = pickBlock w := rfl
theorem pay71 (w : FVec F S128x1024 .f32) : k0_pay71 k0_pay3 w = blockAt w 1 := rfl
theorem pay72 (w : FVec F S128x1024 .f32) : k0_pay72 k0_pay3 w = pickBlock (blockAt w 1) := rfl
theorem pay73 (w : FVec F S128x1024 .f32) : k0_pay73 k0_pay3 w = blockAt w 2 := rfl
theorem pay74 (w : FVec F S128x1024 .f32) : k0_pay74 k0_pay3 w = pickBlock (blockAt w 2) := rfl
theorem pay75 (w : FVec F S128x1024 .f32) : k0_pay75 k0_pay3 w = blockAt w 3 := rfl
theorem pay76 (w : FVec F S128x1024 .f32) : k0_pay76 k0_pay3 w = pickBlock (blockAt w 3) := rfl
theorem pay77 (w : FVec F S128x1024 .f32) : k0_pay77 k0_pay3 w = takenOf (blockAt w 3) := rfl
theorem pay78 (w : FVec F S128x1024 .f32) : k0_pay78 w (takenOf w) = blockAt w 1 := rfl
theorem pay79 (w : FVec F S128x1024 .f32) : k0_pay79 k0_pay3 w (takenOf w) = pickBlock (blockAt w 1) := rfl
theorem pay80 (w : FVec F S128x1024 .f32) : k0_pay80 k0_pay3 w (takenOf w) = blockAt w 2 := rfl
theorem pay81 (w : FVec F S128x1024 .f32) : k0_pay81 k0_pay3 w (takenOf w) = pickBlock (blockAt w 2) := rfl
theorem pay82 (w : FVec F S128x1024 .f32) : k0_pay82 k0_pay3 w (takenOf w) = blockAt w 3 := rfl
theorem pay83 (w : FVec F S128x1024 .f32) : k0_pay83 k0_pay3 w (takenOf w) = pickBlock (blockAt w 3) := rfl
theorem pay84 (w : FVec F S128x1024 .f32) : k0_pay84 k0_pay3 w (takenOf w) = blockAt w 4 := rfl
theorem pay85 (w : FVec F S128x1024 .f32) : k0_pay85 k0_pay3 w (takenOf w) = lanesOf (blockAt w 4) := rfl
theorem pay86 (w : FVec F S128x1024 .f32) : k0_pay86 (lanesOf w) = pickBlock w := rfl
theorem pay87 (w : FVec F S128x1024 .f32) : k0_pay87 k0_pay3 w (lanesOf w) = blockAt w 1 := rfl
theorem pay88 (w : FVec F S128x1024 .f32) : k0_pay88 k0_pay3 w (lanesOf w) = pickBlock (blockAt w 1) := rfl
theorem pay89 (w : FVec F S128x1024 .f32) : k0_pay89 k0_pay3 w (lanesOf w) = blockAt w 2 := rfl
theorem pay90 (w : FVec F S128x1024 .f32) : k0_pay90 k0_pay3 w (lanesOf w) = pickBlock (blockAt w 2) := rfl
theorem pay91 (w : FVec F S128x1024 .f32) : k0_pay91 k0_pay3 w (lanesOf w) = blockAt w 3 := rfl
theorem pay92 (w : FVec F S128x1024 .f32) : k0_pay92 k0_pay3 w (lanesOf w) = pickBlock (blockAt w 3) := rfl
theorem pay93 (w : FVec F S128x1024 .f32) : k0_pay93 k0_pay3 w (lanesOf w) = blockAt w 4 := rfl
theorem pay94 (w : FVec F S128x1024 .f32) : k0_pay94 k0_pay3 w (lanesOf w) = leastOf (blockAt w 4) := rfl
theorem pay95 (w : FVec F S128x1024 .f32) : k0_pay95 k0_pay3 (leastOf w) = pickBlock w := rfl
theorem pay96 (w : FVec F S128x1024 .f32) : k0_pay96 k0_pay3 w (leastOf w) = blockAt w 1 := rfl
theorem pay97 (w : FVec F S128x1024 .f32) : k0_pay97 k0_pay3 w (leastOf w) = pickBlock (blockAt w 1) := rfl
theorem pay98 (w : FVec F S128x1024 .f32) : k0_pay98 k0_pay3 w (leastOf w) = blockAt w 2 := rfl
theorem pay99 (w : FVec F S128x1024 .f32) : k0_pay99 k0_pay3 w (leastOf w) = pickBlock (blockAt w 2) := rfl
theorem pay100 (w : FVec F S128x1024 .f32) : k0_pay100 k0_pay3 w (leastOf w) = blockAt w 3 := rfl
theorem pay101 (w : FVec F S128x1024 .f32) : k0_pay101 k0_pay3 w (leastOf w) = pickBlock (blockAt w 3) := rfl
theorem pay102 (w : FVec F S128x1024 .f32) : k0_pay102 k0_pay3 w (leastOf w) = blockAt w 4 := rfl
theorem pay103 (w : FVec F S128x1024 .f32) : k0_pay103 k0_pay3 w = lanesOf w := rfl
theorem pay104 (w : FVec F S128x1024 .f32) : k0_pay104 (lanesOf w) = pickBlock w := rfl
theorem pay105 (w : FVec F S128x1024 .f32) : k0_pay105 k0_pay3 w (pickBlock w) = blockAt w 1 := rfl
theorem pay106 (w : FVec F S128x1024 .f32) : k0_pay106 k0_pay3 w = lanesOf w := rfl
theorem pay107 (w : FVec F S128x1024 .f32) : k0_pay107 (lanesOf w) = pickBlock w := rfl
theorem pay108 (w : FVec F S128x1024 .f32) : k0_pay108 k0_pay3 w (pickBlock w) = blockAt w 1 := rfl
theorem pay109 (w : FVec F S128x1024 .f32) : k0_pay109 k0_pay3 w = lanesOf w := rfl

/-- The columns side by side. -/
theorem pay110 (f : ℕ → FVec F S128x1024 .f32) :
    k0_pay110 (pickBlock (f 0)) (pickBlock (f 1)) (pickBlock (f 2)) (pickBlock (f 3)) (pickBlock (f 4)) (pickBlock (f 5)) (pickBlock (f 6)) (pickBlock (f 7)) (pickBlock (f 8)) (pickBlock (f 9)) (pickBlock (f 10)) (pickBlock (f 11)) (pickBlock (f 12)) (pickBlock (f 13)) (pickBlock (f 14)) (pickBlock (f 15)) (pickBlock (f 16)) (pickBlock (f 17)) (pickBlock (f 18)) (pickBlock (f 19)) (pickBlock (f 20)) (pickBlock (f 21)) (pickBlock (f 22)) (pickBlock (f 23)) (pickBlock (f 24)) (pickBlock (f 25)) (pickBlock (f 26)) (pickBlock (f 27)) (pickBlock (f 28)) (pickBlock (f 29)) (pickBlock (f 30)) (pickBlock (f 31)) (pickBlock (f 32)) (pickBlock (f 33)) (pickBlock (f 34)) (pickBlock (f 35)) (pickBlock (f 36)) (pickBlock (f 37)) (pickBlock (f 38)) (pickBlock (f 39)) (pickBlock (f 40)) (pickBlock (f 41)) (pickBlock (f 42)) (pickBlock (f 43)) (pickBlock (f 44)) (pickBlock (f 45)) (pickBlock (f 46)) (lanesOf (f 47))
      = concatenate S128x48 1 (List.ofFn fun k : Fin 48 => (⟨S128x1, pickBlock (f k.1)⟩ : (s : Shape) × (s.Idx → F .f32)))
        concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x48_d1 := rfl

/-! ## The values stated between the parts -/

variable (i : grid0.Coords) (x0 : Vec F S128x3 .f32) (x1 : Vec F S1x3x1024 .f32) (x2 : Vec F S128x1 .f32) (x3 : Vec F S1x1x1024 .f32)

theorem at114 : k0_pay114 i x0 x1 x2 x3 = k0_pay3 := rfl
theorem at115 : k0_pay115 i x0 x1 x2 x3 = blockAt (k0_pay113 i x0 x1 x2 x3) 3 := by
  simp only [k0_pay115, pay9, at114, blockAt_add, Nat.reduceAdd]
theorem at116 : k0_pay116 i x0 x1 x2 x3 = takenOf (blockAt (k0_pay113 i x0 x1 x2 x3) 3) := by
  simp only [k0_pay116, pay11, at114, blockAt_add, Nat.reduceAdd]
theorem at117 : k0_pay117 i x0 x1 x2 x3 = blockAt (k0_pay113 i x0 x1 x2 x3) 7 := by
  simp only [k0_pay117, pay18, at114, at115, at116, blockAt_add, Nat.reduceAdd]
theorem at118 : k0_pay118 i x0 x1 x2 x3 = lanesOf (blockAt (k0_pay113 i x0 x1 x2 x3) 7) := by
  simp only [k0_pay118, pay19, at114, at115, at116, blockAt_add, Nat.reduceAdd]
theorem at119 : k0_pay119 i x0 x1 x2 x3 = blockAt (k0_pay113 i x0 x1 x2 x3) 11 := by
  simp only [k0_pay119, pay27, at114, at117, at118, blockAt_add, Nat.reduceAdd]
theorem at120 : k0_pay120 i x0 x1 x2 x3 = leastOf (blockAt (k0_pay113 i x0 x1 x2 x3) 11) := by
  simp only [k0_pay120, pay28, at114, at117, at118, blockAt_add, Nat.reduceAdd]
theorem at121 : k0_pay121 i x0 x1 x2 x3 = blockAt (k0_pay113 i x0 x1 x2 x3) 15 := by
  simp only [k0_pay121, pay36, at114, at119, at120, blockAt_add, Nat.reduceAdd]
theorem at122 : k0_pay122 i x0 x1 x2 x3 = blockAt (k0_pay113 i x0 x1 x2 x3) 18 := by
  simp only [k0_pay122, pay42, at114, at121, blockAt_add, Nat.reduceAdd]
theorem at123 : k0_pay123 i x0 x1 x2 x3 = takenOf (blockAt (k0_pay113 i x0 x1 x2 x3) 18) := by
  simp only [k0_pay123, pay44, at114, at121, blockAt_add, Nat.reduceAdd]
theorem at124 : k0_pay124 i x0 x1 x2 x3 = blockAt (k0_pay113 i x0 x1 x2 x3) 22 := by
  simp only [k0_pay124, pay51, at114, at122, at123, blockAt_add, Nat.reduceAdd]
theorem at125 : k0_pay125 i x0 x1 x2 x3 = lanesOf (blockAt (k0_pay113 i x0 x1 x2 x3) 22) := by
  simp only [k0_pay125, pay52, at114, at122, at123, blockAt_add, Nat.reduceAdd]
theorem at126 : k0_pay126 i x0 x1 x2 x3 = blockAt (k0_pay113 i x0 x1 x2 x3) 26 := by
  simp only [k0_pay126, pay60, at114, at124, at125, blockAt_add, Nat.reduceAdd]
theorem at127 : k0_pay127 i x0 x1 x2 x3 = leastOf (blockAt (k0_pay113 i x0 x1 x2 x3) 26) := by
  simp only [k0_pay127, pay61, at114, at124, at125, blockAt_add, Nat.reduceAdd]
theorem at128 : k0_pay128 i x0 x1 x2 x3 = blockAt (k0_pay113 i x0 x1 x2 x3) 30 := by
  simp only [k0_pay128, pay69, at114, at126, at127, blockAt_add, Nat.reduceAdd]
theorem at129 : k0_pay129 i x0 x1 x2 x3 = blockAt (k0_pay113 i x0 x1 x2 x3) 33 := by
  simp only [k0_pay129, pay75, at114, at128, blockAt_add, Nat.reduceAdd]
theorem at130 : k0_pay130 i x0 x1 x2 x3 = takenOf (blockAt (k0_pay113 i x0 x1 x2 x3) 33) := by
  simp only [k0_pay130, pay77, at114, at128, blockAt_add, Nat.reduceAdd]
theorem at131 : k0_pay131 i x0 x1 x2 x3 = blockAt (k0_pay113 i x0 x1 x2 x3) 37 := by
  simp only [k0_pay131, pay84, at114, at129, at130, blockAt_add, Nat.reduceAdd]
theorem at132 : k0_pay132 i x0 x1 x2 x3 = lanesOf (blockAt (k0_pay113 i x0 x1 x2 x3) 37) := by
  simp only [k0_pay132, pay85, at114, at129, at130, blockAt_add, Nat.reduceAdd]
theorem at133 : k0_pay133 i x0 x1 x2 x3 = blockAt (k0_pay113 i x0 x1 x2 x3) 41 := by
  simp only [k0_pay133, pay93, at114, at131, at132, blockAt_add, Nat.reduceAdd]
theorem at134 : k0_pay134 i x0 x1 x2 x3 = leastOf (blockAt (k0_pay113 i x0 x1 x2 x3) 41) := by
  simp only [k0_pay134, pay94, at114, at131, at132, blockAt_add, Nat.reduceAdd]
theorem at135 : k0_pay135 i x0 x1 x2 x3 = blockAt (k0_pay113 i x0 x1 x2 x3) 45 := by
  simp only [k0_pay135, pay102, at114, at133, at134, blockAt_add, Nat.reduceAdd]
theorem at136 : k0_pay136 i x0 x1 x2 x3 = pickBlock (blockAt (k0_pay113 i x0 x1 x2 x3) 45) := by
  simp only [k0_pay136, pay104, pay103, at114, at135, blockAt_add, Nat.reduceAdd]
theorem at137 : k0_pay137 i x0 x1 x2 x3 = blockAt (k0_pay113 i x0 x1 x2 x3) 46 := by
  simp only [k0_pay137, pay105, at114, at135, at136, blockAt_add, Nat.reduceAdd]
theorem at138 : k0_pay138 i x0 x1 x2 x3 = pickBlock (blockAt (k0_pay113 i x0 x1 x2 x3) 46) := by
  simp only [k0_pay138, pay107, pay106, at114, at137, blockAt_add, Nat.reduceAdd]

/-- The body's block: in column `k` round `k`'s picks as whole numbers, plus 1024 for every protein before. -/
theorem out_eq : out0_4 i x0 x1 x2 x3 = View.canon [⟨r0_4, k0_pay1 (k0_pay111
    (concatenate S128x48 1 (List.ofFn fun k : Fin 48 =>
        (⟨S128x1, pickBlock (blockAt (k0_pay113 i x0 x1 x2 x3) k.1)⟩ : (s : Shape) × (s.Idx → F .f32)))
      concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x48_d1))
    (k0_pay112 (BitVec.ofNat 32 (i 0).val))⟩] := by
  rw [← pay110 (fun k => blockAt (k0_pay113 i x0 x1 x2 x3) k)]
  simp only [out0_4, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97, pay98, pay99, pay100, pay101, pay102, pay103, pay104, pay105, pay106, pay107, pay108, pay109, at114, at115, at116, at117, at118, at119, at120, at121, at122, at123, at124, at125, at126, at127, at128, at129, at130, at131, at132, at133, at134, at135, at136, at137, at138, blockAt_add, Nat.reduceAdd]
  rfl

end Cert.Proof

end
-- ==== Proof.Select.lean ====
/-
  Taking the least entry of a row again and again, each time marking it as taken, gives the first positions of the
  row's stable sort.
-/
module

public import Idealize.ShloMosaic.Lib.SortPrefix
public import Idealize.ShloMosaic.PureOps.Ideal
public import Mathlib.Data.EReal.Basic
public import Mathlib.Data.Finset.Lattice.Fold

@[expose] public section

noncomputable section

namespace Cert.Proof

open Idealize.ShloMosaic

/-! ## One round -/

/-- `i` is the first position of the least entry of `v`. -/
def IsFirst {n : ℕ} (v : Fin n → EReal) (i : Fin n) : Prop := ∀ j, v i < v j ∨ (v i = v j ∧ i ≤ j)

/-- The least entry of `v`. -/
def least {n : ℕ} (v : Fin n → EReal) : EReal := (Finset.univ : Finset (Fin n)).fold min ⊤ v

/-- The least position among those of the least entry, as a number; entries that are not least count as `big`. -/
def pick {n : ℕ} (big : EReal) (v : Fin n → EReal) : EReal :=
  (Finset.univ : Finset (Fin n)).fold min ⊤ fun j => if v j ≤ least v then ((j.1 : ℝ) : EReal) else big

theorem least_le {n : ℕ} (v : Fin n → EReal) (j : Fin n) : least v ≤ v j :=
  Finset.inf_le (f := v) (Finset.mem_univ j)

theorem exists_least {n : ℕ} (hn : 0 < n) (v : Fin n → EReal) : ∃ i, v i = least v := by
  obtain ⟨i, -, hi⟩ := Finset.exists_mem_eq_inf (Finset.univ : Finset (Fin n)) ⟨⟨0, hn⟩, Finset.mem_univ _⟩ v
  exact ⟨i, hi.symm⟩

/-- Positions as numbers are ordered as positions. -/
theorem coe_le_coe_pos {n : ℕ} (i j : Fin n) : ((i.1 : ℝ) : EReal) ≤ ((j.1 : ℝ) : EReal) ↔ i ≤ j := by
  rw [EReal.coe_le_coe_iff, Nat.cast_le, Fin.le_def]

theorem coe_eq_coe_pos {n : ℕ} (i j : Fin n) : ((i.1 : ℝ) : EReal) = ((j.1 : ℝ) : EReal) ↔ i = j := by
  rw [EReal.coe_eq_coe_iff, Nat.cast_inj, Fin.ext_iff]

/-- A round picks the first position of the least entry. -/
theorem pick_spec {n : ℕ} (hn : 0 < n) (big : EReal) (hbig : ∀ i : Fin n, ((i.1 : ℝ) : EReal) ≤ big) (v : Fin n → EReal) :
    ∃ i, IsFirst v i ∧ pick big v = ((i.1 : ℝ) : EReal) := by
  classical
  obtain ⟨k, hk⟩ := exists_least hn v
  have hne : (Finset.univ.filter fun j => v j ≤ least v).Nonempty :=
    ⟨k, Finset.mem_filter.mpr ⟨Finset.mem_univ _, hk.le⟩⟩
  obtain ⟨i, hi⟩ : ∃ i, i = (Finset.univ.filter fun j => v j ≤ least v).min' hne := ⟨_, rfl⟩
  have hmem : v i ≤ least v := by
    have := Finset.min'_mem _ hne
    rw [← hi] at this
    exact (Finset.mem_filter.mp this).2
  have hmin : ∀ j, v j ≤ least v → i ≤ j := fun j hj => by
    rw [hi]
    exact Finset.min'_le _ j (Finset.mem_filter.mpr ⟨Finset.mem_univ j, hj⟩)
  refine ⟨i, fun j => ?_, le_antisymm ?_ ?_⟩
  · rcases lt_or_eq_of_le (hmem.trans (least_le v j)) with h | h
    · exact Or.inl h
    · exact Or.inr ⟨h, hmin j (h ▸ hmem)⟩
  · refine (Finset.inf_le (f := fun j : Fin n => if v j ≤ least v then ((j.1 : ℝ) : EReal) else big) (Finset.mem_univ i)).trans ?_
    rw [if_pos hmem]
  · refine Finset.le_inf fun j _ => ?_
    show ((i.1 : ℝ) : EReal) ≤ if v j ≤ least v then ((j.1 : ℝ) : EReal) else big
    split
    · next h => exact (coe_le_coe_pos i j).mpr (hmin j h)
    · exact hbig i

/-! ## Rounds one after another -/

/-- `v`, with the entry at the picked position marked by `+∞`. -/
def drop {n : ℕ} (big : EReal) (v : Fin n → EReal) : Fin n → EReal :=
  fun j => if ((j.1 : ℝ) : EReal) = pick big v then ⊤ else v j

/-- The row before round `k`. -/
def rowAt {n : ℕ} (big : EReal) (v : Fin n → EReal) : ℕ → Fin n → EReal
  | 0 => v
  | k + 1 => drop big (rowAt big v k)

/-- What sorts before what: the lesser entry, and of equal ones the earlier. -/
def before {n : ℕ} (v : Fin n → EReal) (a b : Fin n) : Bool :=
  decide (v a < v b) || (decide (v a = v b) && decide (a < b))

theorem before_total {n : ℕ} (v : Fin n → EReal) : StrictTotalBefore (before v) :=
  StrictTotalBefore.of_key_then_position (fun a b => decide (a < b)) v (fun a => by simp)
    (fun a b c h1 h2 => by simp only [decide_eq_true_eq] at *; exact h1.trans h2)
    (fun a b => by simp only [decide_eq_true_eq]; exact lt_trichotomy a b)

/-- A stable sort keeps equal entries in their order. -/
theorem stableSort_before {n : ℕ} (v : Fin n → EReal) (l : List (Fin n)) (hl : l.Pairwise (· < ·)) :
    stableSort (fun a b => decide (v a < v b)) l = stableSort (before v) l := by
  induction l with
  | nil => rfl
  | cons a l ih =>
    obtain ⟨ha, hl'⟩ := List.pairwise_cons.mp hl
    unfold stableSort
    rw [ih hl']
    refine insertBefore_congr _ _ a _ fun b hb => ?_
    have hab : a < b := ha b ((perm_stableSort _ l).mem_iff.mp hb)
    simp [before, not_lt_of_gt hab]

theorem sortedFrom_before {n : ℕ} (v : Fin n → EReal) (k : Fin n) :
    sortedFrom (fun a b => decide (v a < v b)) k = sortedFrom (before v) k := by
  have h : sortPositions n (fun a b => decide (v a < v b)) = sortPositions n (before v) :=
    stableSort_before v _ (List.pairwise_lt_finRange n)
  unfold sortedFrom
  rw [List.get_of_eq h]
  rfl

/-- Rounds `0, …, K-1` on a row with no infinite entry pick the first `K` positions of its stable sort. -/
theorem pick_rowAt {n : ℕ} (big : EReal) (hbig : ∀ i : Fin n, ((i.1 : ℝ) : EReal) ≤ big) (v : Fin n → EReal)
    (hv : ∀ j, v j < ⊤) {K : ℕ} (hK : K ≤ n) (k : Fin K) :
    pick big (rowAt big v k.1)
      = (((sortedFrom (fun a b => decide (v a < v b)) (k.castLE hK)).1 : ℝ) : EReal) := by
  classical
  have hn : 0 < n := by have := k.2; omega
  choose p hp hpick using fun k => pick_spec hn big hbig (rowAt big v k)
  -- the row before round k: the positions picked earlier are marked
  have hrow : ∀ k j, rowAt big v k j = if ∃ i, i < k ∧ p i = j then ⊤ else v j := by
    intro k
    induction k with
    | zero => intro j; simp [rowAt]
    | succ k ih =>
      intro j
      show (if ((j.1 : ℝ) : EReal) = pick big (rowAt big v k) then ⊤ else rowAt big v k j) = _
      rw [hpick k]
      by_cases h : j = p k
      · rw [if_pos ((coe_eq_coe_pos j (p k)).mpr h), if_pos ⟨k, Nat.lt_succ_self k, h.symm⟩]
      · rw [if_neg (fun e => h ((coe_eq_coe_pos j (p k)).mp e)), ih j]
        refine if_congr ⟨fun ⟨i, hi, e⟩ => ⟨i, by omega, e⟩, fun ⟨i, hi, e⟩ => ⟨i, ?_, e⟩⟩ rfl rfl
        rcases Nat.lt_or_eq_of_le (Nat.lt_succ_iff.mp hi) with h' | h'
        · exact h'
        · exact absurd (h' ▸ e).symm h
  -- a position picked is not among those picked earlier
  have hnew : ∀ k, k < n → ¬ ∃ i, i < k ∧ p i = p k := by
    intro k hk hex
    have htop : rowAt big v k (p k) = ⊤ := by rw [hrow, if_pos hex]
    obtain ⟨j, hj⟩ : ∃ j, ¬ ∃ i, i < k ∧ p i = j := by
      by_contra hall
      have hsub : (Finset.univ : Finset (Fin n)) ⊆ (Finset.range k).image p := fun j _ => by
        by_contra hj
        exact hall ⟨j, fun ⟨i, hi, e⟩ => hj (Finset.mem_image.mpr ⟨i, Finset.mem_range.mpr hi, e⟩)⟩
      have := (Finset.card_le_card hsub).trans Finset.card_image_le
      rw [Finset.card_univ, Fintype.card_fin, Finset.card_range] at this
      omega
    have hj' : rowAt big v k j < ⊤ := by rw [hrow, if_neg hj]; exact hv j
    rcases hp k j with h | ⟨h, -⟩
    · rw [htop] at h; exact not_top_lt h
    · rw [← h, htop] at hj'; exact lt_irrefl _ hj'
  have hval : ∀ k, k < n → rowAt big v k (p k) = v (p k) := fun k hk => by rw [hrow, if_neg (hnew k hk)]
  have hlater : ∀ i : Fin K, ∀ q, (∀ j : Fin K, j < i → p j.1 ≠ q) → v (p i.1) < v q ∨ (v (p i.1) = v q ∧ p i.1 ≤ q) := by
    intro i q hq
    have := hp i.1 q
    rwa [hval i.1 (by have := i.2; omega), hrow i.1 q,
      if_neg (fun ⟨j, hj, e⟩ => hq ⟨j, by have := i.2; omega⟩ hj e)] at this
  have hinj' : ∀ i j : Fin K, i < j → p i.1 ≠ p j.1 := fun i j hij e =>
    hnew j.1 (by have := j.2; omega) ⟨i.1, hij, e⟩
  rw [hpick, sortedFrom_before]
  refine congrArg (fun q : Fin n => ((q.1 : ℝ) : EReal)) (Eq.symm ?_)
  refine (before_total v).sortedFrom_eq_of_prefix hK (fun i : Fin K => p i.1) ?_ ?_ ?_ k
  · intro i j e
    rcases lt_trichotomy i j with h | h | h
    · exact absurd e (hinj' i j h)
    · exact h
    · exact absurd e.symm (hinj' j i h)
  · intro i j hij
    rcases hlater i (p j.1) (fun l hl => hinj' l j (hl.trans hij)) with h | ⟨h, h'⟩
    · simp [before, not_lt_of_gt h, h.ne']
    · simp [before, h, not_lt_of_ge h']
  · intro i q hq
    rcases hlater i q (fun l _ => hq l) with h | ⟨h, h'⟩
    · simp [before, not_lt_of_gt h, h.ne']
    · simp [before, h, not_lt_of_ge h']

end Cert.Proof

end
-- ==== Proof.RoundValue.lean ====
/-
  A round of the top-k body, read row by row over the extended reals.
-/
module

public import proofs.«01_k».proof.Proof.Rounds
public import proofs.«01_k».proof.Proof.Select
public import Idealize.ShloMosaic.Lib.Pointwise

@[expose] public section

noncomputable section

namespace Cert.Proof

open Idealize.ShloMosaic Cert.NeighboursIdeal Cert.NeighboursIdeal.Gen

/-- The number 2048. -/
def big : EReal := Ideal.ofBits .f32 0x45000000#32

/-- A row of a block. -/
def rowOf (w : FVec Ideal S128x1024 .f32) (r : Fin 128) : Fin 1024 → EReal := fun j => w (ix2 r j)

theorem big_eq : big = ((2048 : ℝ) : EReal) := by
  simp [big, Ideal.ofBits, Ideal.ieee, -EReal.coe_mul]; norm_num

theorem le_big (i : Fin 1024) : ((i.1 : ℝ) : EReal) ≤ big := by
  rw [big_eq, EReal.coe_le_coe_iff]
  exact_mod_cast (by omega : i.1 ≤ 2048)

theorem num_top : Ideal.ofBits .f32 0x7F800000#32 = ⊤ := by
  simp [Ideal.ofBits, Ideal.ieee]

/-- A lane's number. -/
theorem lane_number (j : Fin 1024) : (FloatOps.sitofp (F := Ideal) .f32 (BitVec.ofNat 32 j.1) : EReal) = ((j.1 : ℝ) : EReal) := by
  show (((BitVec.ofNat 32 j.1).toInt : ℝ) : EReal) = _
  congr 1
  rw [show (BitVec.ofNat 32 j.1).toInt = (j.1 : ℤ) by rw [BitVec.toInt_eq_toNat_cond]; simp; omega]
  rfl

theorem pickBlock_at (w : FVec Ideal S128x1024 .f32) (r : Fin 128) :
    (pickBlock w : S128x1.Idx → EReal) (ix2 r 0) = pick big (rowOf w r) := by
  pointwise [pickBlock, k0_pay4, k0_pay3]
  rw [num_top]
  simp only [lane_number]
  rfl

theorem dropBlock_at (w : FVec Ideal S128x1024 .f32) (r : Fin 128) :
    rowOf (dropBlock w) r = drop big (rowOf w r) := by
  funext j
  have h := pickBlock_at w r
  have hl : (k0_pay3 (F := Ideal) : S128x1024.Idx → EReal) (ix2 r j) = ((j.1 : ℝ) : EReal) := by
    pointwise [k0_pay3]
    exact lane_number j
  unfold pickBlock at h
  unfold rowOf
  pointwise [dropBlock, k0_pay5]
  rw [hl, h]
  rfl

/-- The rows of the block before round `k`. -/
theorem rowOf_blockAt (w : FVec Ideal S128x1024 .f32) (r : Fin 128) (k : ℕ) :
    rowOf (blockAt w k) r = rowAt big (rowOf w r) k := by
  induction k with
  | zero => rfl
  | succ k ih => exact (dropBlock_at (blockAt w k) r).trans (congrArg (drop big) ih)

variable (i : grid0.Coords) (x0 : Vec Ideal S128x3 .f32) (x1 : Vec Ideal S1x3x1024 .f32) (x2 : Vec Ideal S128x1 .f32)
  (x3 : Vec Ideal S1x1x1024 .f32)

/-- A column's number made a word, and the protein's first row number added. -/
theorem word_at (x : FVec Ideal S128x48 .f32) (b : BitVec 32) (r : Fin 128) (k : Fin 48) :
    k0_pay1 (k0_pay111 x) (k0_pay112 b) (ix2 r k)
      = IntOp.addi (Ideal.fptosi 32 (x (ix2 r k))) (IntOp.muli b 1024#32) := rfl

/-- The body's block at row `r`, column `k`. -/
theorem out_at (r : Fin 128) (k : Fin 48) :
    (out0_4 i x0 x1 x2 x3 : S128x48.Idx → BitVec 32) (ix2 r k)
      = IntOp.addi (Ideal.fptosi 32 (pick big (rowAt big (rowOf (k0_pay2 (F := Ideal) x1 x0 x2 x3) r) k.1)))
          (IntOp.muli (BitVec.ofNat 32 (i 0).val) 1024#32) := by
  have h0 : (fun _ => 0 : Fin 2 → ℕ) = ![0, 0] := by funext a; fin_cases a <;> rfl
  have h0' : (fun _ => 0 : Fin 3 → ℕ) = ![0, 0, 0] := by funext a; fin_cases a <;> rfl
  have hv : k0_pay113 (F := Ideal) i x0 x1 x2 x3 = k0_pay2 x1 x0 x2 x3 := by
    unfold k0_pay113 r0_0 r0_1 r0_2 r0_3
    rw [View.ld_unit_zero h0'.symm, View.ld_unit_zero h0.symm, View.ld_unit_zero h0.symm, View.ld_unit_zero h0'.symm]
  rw [out_eq, hv]
  unfold r0_4
  rw [View.canon_unit_zero h0.symm]
  rw [word_at]
  refine congrArg (fun e => IntOp.addi (Ideal.fptosi 32 e) _) ?_
  refine (concatenate_ofFn_unit_apply (t := S128x48) (s₁ := S128x1) 1
    (fun k : Fin 48 => pickBlock (blockAt (k0_pay2 x1 x0 x2 x3) k.1)) _ rfl rfl (ix2 r k) k rfl (ix2 r 0) ?_).trans ?_
  · intro b hb
    match b with
    | 0 => rfl
    | 1 => exact absurd rfl hb
  · rw [pickBlock_at, rowOf_blockAt]

end Cert.Proof

end
-- ==== Proof.Near.lean ====
/-
  The distance by which neighbours are ranked: between two residues' second atoms, times both residues' masks; and
  where a mask is not one, the greatest such distance of the row is added in proportion.
-/
module

public import proofs.«01_k».proof.Proof.RoundValue

@[expose] public section

noncomputable section

namespace Cert.Proof

open Idealize.ShloMosaic Cert.NeighboursIdeal Cert.NeighboursIdeal.Gen

/-- A point. -/
abbrev Point := Fin 3 → EReal

/-- The distance of two points, with 1e-6 added under the root. -/
def gap (a b : Point) : EReal :=
  Ideal.sqrt ((a 0 - b 0) * (a 0 - b 0) + (a 1 - b 1) * (a 1 - b 1) + (a 2 - b 2) * (a 2 - b 2)
    + Ideal.ofBits .f32 0x358637BD#32)

/-- The distance from `a`, times the two masks. -/
def masked (a : Point) (m : EReal) (A : Fin 1024 → Point) (M : Fin 1024 → EReal) (j : Fin 1024) : EReal :=
  m * M j * gap a (A j)

/-- The rank of residue `j` for a residue at `a` with mask `m`. -/
def near (a : Point) (m : EReal) (A : Fin 1024 → Point) (M : Fin 1024 → EReal) (j : Fin 1024) : EReal :=
  masked a m A M j + (1 - m * M j)
    * (Finset.univ : Finset (Fin 1024)).fold max (Ideal.ofBits .f32 0xFF800000#32) (masked a m A M)

/-- The kernel's block of ranks. -/
theorem rowOf_ranks (x0 : Vec Ideal S128x3 .f32) (x1 : Vec Ideal S1x3x1024 .f32) (x2 : Vec Ideal S128x1 .f32)
    (x3 : Vec Ideal S1x1x1024 .f32) (r : Fin 128) :
    rowOf (k0_pay2 (F := Ideal) x1 x0 x2 x3) r
      = near (fun c => x0 (ix2 r c)) (x2 (ix2 r 0)) (fun j c => x1 (ix3 0 c j)) (fun j => x3 (ix3 0 0 j)) := by
  funext j
  unfold rowOf
  pointwise [k0_pay2]
  rfl

/-! ## Real numbers among the extended reals -/

/-- A number that is not infinite. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem eps_real : ∃ e : ℝ, 0 ≤ e ∧ Ideal.ofBits .f32 0x358637BD#32 = ((e : ℝ) : EReal) := by
  refine ⟨8796093 / 2 ^ 43, by positivity, ?_⟩
  simp [Ideal.ofBits, Ideal.ieee, -EReal.coe_mul]
  norm_num

theorem bot_bits : Ideal.ofBits .f32 0xFF800000#32 = ⊥ := by
  simp [Ideal.ofBits, Ideal.ieee]

theorem gap_real {a b : Point} (ha : ∀ c, IsReal (a c)) (hb : ∀ c, IsReal (b c)) : IsReal (gap a b) := by
  choose x hx using ha
  choose y hy using hb
  obtain ⟨e, he, hE⟩ := eps_real
  unfold gap
  simp only [hx, hy, hE, ← EReal.coe_sub, ← EReal.coe_mul, ← EReal.coe_add, Ideal.sqrt_coe]
  rw [if_neg (not_lt.mpr (add_nonneg (add_nonneg (add_nonneg (mul_self_nonneg _) (mul_self_nonneg _)) (mul_self_nonneg _)) he))]
  exact ⟨_, rfl⟩

theorem near_lt_top {a : Point} {m : EReal} {A : Fin 1024 → Point} {M : Fin 1024 → EReal} (ha : ∀ c, IsReal (a c))
    (hm : IsReal m) (hA : ∀ j c, IsReal (A j c)) (hM : ∀ j, IsReal (M j)) (j : Fin 1024) : near a m A M j < ⊤ := by
  have hD : ∀ j, IsReal (masked a m A M j) := fun j => (hm.mul (hM j)).mul (gap_real ha (hA j))
  have hmax : IsReal ((Finset.univ : Finset (Fin 1024)).fold max (Ideal.ofBits .f32 0xFF800000#32) (masked a m A M)) := by
    rw [bot_bits]
    obtain ⟨i, -, hi⟩ := Finset.exists_mem_eq_sup (Finset.univ : Finset (Fin 1024)) ⟨0, Finset.mem_univ _⟩ (masked a m A M)
    have : (Finset.univ : Finset (Fin 1024)).fold max ⊥ (masked a m A M) = masked a m A M i := hi
    rw [this]
    exact hD i
  obtain ⟨r, hr⟩ : IsReal (near a m A M j) :=
    (hD j).add ((IsReal.sub ⟨1, rfl⟩ (hm.mul (hM j))).mul hmax)
  rw [hr]
  exact EReal.coe_lt_top r

/-- The distance does not depend on the order of the points. -/
theorem gap_comm {a b : Point} (ha : ∀ c, IsReal (a c)) (hb : ∀ c, IsReal (b c)) : gap a b = gap b a := by
  choose x hx using ha
  choose y hy using hb
  unfold gap
  simp only [hx, hy, ← EReal.coe_sub, ← EReal.coe_mul]
  have h : ∀ c, (x c - y c) * (x c - y c) = (y c - x c) * (y c - x c) := fun c => by ring
  simp only [h]

end Cert.Proof

end
-- ==== Proof.Finite.lean ====
/-
  The second precondition read back: no coordinate and no mask is infinite.
-/
module

public import proofs.«01_k».proof.Defs
public import proofs.«01_k».proof.Proof.Gen.Pre_finite
public import proofs.«01_k».proof.Proof.Near
public import Idealize.ShloMosaic.Lib.ReduceAll

@[expose] public section

namespace Cert.Proof

open Idealize.ShloMosaic Cert.Pre_finite Cert.Pre_finite.Gen

/-- A number whose absolute value is below plus infinity is not infinite. -/
theorem real_of_abs {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have h' : max x (-x) < ⊤ := by
    by_contra hc
    simp [Ideal.cmp, hc] at h
  induction x with
  | bot => simp at h'
  | top => simp at h'
  | coe r => exact ⟨r, rfl⟩

/-- What the precondition says of its two arrays. -/
theorem finites (X : FVec Ideal S4x1024x4x3 .f32) (M : FVec Ideal S4x1024 .f32)
    (h : Cert.Pre_finite.fn X M = fun _ => 1#1) : (∀ i, IsReal (X i)) ∧ ∀ i, IsReal (M i) := by
  haveI : Subsingleton S_.Idx := ⟨fun i j => funext fun a => a.elim0⟩
  have h' := congrFun h (fun a => a.elim0)
  obtain ⟨h1, h2⟩ := IntOp.andi_eq_one.1 h'
  exact ⟨fun i => real_of_abs (Host.reduce_andi_all _ _ _ _ _ h1 i), fun i => real_of_abs (Host.reduce_andi_all _ _ _ _ _ h2 i)⟩

end Cert.Proof
-- ==== Proof.KernelNearest.lean ====
/-
  The result array of the neighbours' call: row `i` holds, in order, the row numbers of the residues nearest to
  residue `i`.
-/
module

public import proofs.«01_k».proof.Proof.Near
public import proofs.«01_k».proof.Proof.Gen.NeighboursIdeal.Value
public import Idealize.ShloMosaic.Lib.Pipeline.ValueKit
public import Idealize.ShloMosaic.Lib.StableHlo.ReadAt

@[expose] public section

noncomputable section

namespace Cert.Proof

open Idealize.ShloMosaic Idealize.ShloMosaic.TcCoe Cert.NeighboursIdeal Cert.NeighboursIdeal.Gen

/-- The point that ranks residue `i` of protein `b`: its second atom. -/
def second (X : S4x1024x4x3.Idx → EReal) (b : Fin 4) (i : Fin 1024) : Point := fun c => X (ix4 b i 1 c)

/-- The ranks of the residues of protein `b` for residue `i`. -/
def ranks (X : S4x1024x4x3.Idx → EReal) (M : S4x1024.Idx → EReal) (b : Fin 4) (i : Fin 1024) : Fin 1024 → EReal :=
  near (second X b i) (M (ix2 b i)) (second X b) (fun j => M (ix2 b j))

/-- The number of rows of the proteins before `b`, plus a row's number in its protein. -/
def rowWord (e : EReal) (b : ℕ) : BitVec 32 := IntOp.addi (Ideal.fptosi 32 e) (IntOp.muli (BitVec.ofNat 32 b) 1024#32)

/-- Row `i`, column `k` of the result. -/
def nearest (X : S4x1024x4x3.Idx → EReal) (M : S4x1024.Idx → EReal) (y : S4096x48.Idx) : BitVec 32 :=
  rowWord (pick big (rowAt big (ranks X M ⟨(y 0).1 / 1024, by have := (y 0).2; simp at this; omega⟩ ⟨(y 0).1 % 1024, by omega⟩) (y 1).1))
    ((y 0).1 / 1024)

variable (m : (ℓ : Loc nD τ sig) → Buf (Elt Ideal) ℓ) (d : Dev nD)

/-- The first argument array. -/
abbrev argX : S4x1024x4x3.Idx → EReal := m (d, Proc.devRef .tc main_arg0)
/-- The second argument array. -/
abbrev argM : S4x1024.Idx → EReal := m (d, Proc.devRef .tc main_arg1)

/-! ## The call's operands -/

theorem rows_at (i : Fin 4096) (c : Fin 3) :
    (V m d main_v2 : S4096x3.Idx → EReal) (ix2 i c) = argX m d (ix4 ⟨i.1 / 1024, by omega⟩ ⟨i.1 % 1024, by omega⟩ 1 c) := by
  unfold V hostOps0
  after_reads_at

theorem cols_at (b : Fin 4) (c : Fin 3) (j : Fin 1024) :
    (V m d main_v5 : S4x3x1024.Idx → EReal) (ix3 b c j) = argX m d (ix4 b j 1 c) := by
  unfold V hostOps0
  after_reads_at

theorem maskRows_at (i : Fin 4096) :
    (V m d main_v6 : S4096x1.Idx → EReal) (ix2 i 0) = argM m d (ix2 ⟨i.1 / 1024, by omega⟩ ⟨i.1 % 1024, by omega⟩) := by
  unfold V hostOps0
  after_reads_at

theorem maskCols_at (b : Fin 4) (j : Fin 1024) :
    (V m d main_v7 : S4x1x1024.Idx → EReal) (ix3 b 0 j) = argM m d (ix2 b j) := by
  unfold V hostOps0
  after_reads_at

/-! ## The blocks -/

theorem index_rows : ∀ t : Fin cfg0.N, (win0_0.index t 0 = t.1 ∧ win0_0.index t 1 = 0) ∧ (win0_2.index t 0 = t.1 ∧ win0_2.index t 1 = 0)
    ∧ (win0_4.index t 0 = t.1 ∧ win0_4.index t 1 = 0) := by
  decide +kernel

theorem index_cols : ∀ t : Fin cfg0.N, (win0_1.index t 0 = t.1 / 8 ∧ win0_1.index t 1 = 0 ∧ win0_1.index t 2 = 0)
    ∧ (win0_3.index t 0 = t.1 / 8 ∧ win0_3.index t 1 = 0 ∧ win0_3.index t 2 = 0) ∧ (grid0.coords t 0).1 = t.1 / 8 := by
  decide +kernel

theorem lt_points (t : Fin cfg0.N) : t.1 < 32 := t.2

theorem block_rows (t : Fin cfg0.N) (r : Fin 128) (c : Fin 3) : (iblk m d 0 t : S128x3.Idx → EReal) (ix2 r c)
    = (V m d main_v2 : S4096x3.Idx → EReal) (ix2 ⟨t.1 * 128 + r.1, by have := lt_points t; omega⟩ c) := by
  obtain ⟨⟨h0, h1⟩, -, -⟩ := index_rows t
  unfold iblk
  blk_simp
  congr 1
  blk_ext [h0, h1]

theorem block_cols (t : Fin cfg0.N) (c : Fin 3) (j : Fin 1024) : (iblk m d 1 t : S1x3x1024.Idx → EReal) (ix3 0 c j)
    = (V m d main_v5 : S4x3x1024.Idx → EReal) (ix3 ⟨t.1 / 8, by have := lt_points t; omega⟩ c j) := by
  obtain ⟨⟨h0, h1, h2⟩, -, -⟩ := index_cols t
  unfold iblk
  blk_simp
  congr 1
  blk_ext [h0, h1, h2]

theorem block_maskRows (t : Fin cfg0.N) (r : Fin 128) : (iblk m d 2 t : S128x1.Idx → EReal) (ix2 r 0)
    = (V m d main_v6 : S4096x1.Idx → EReal) (ix2 ⟨t.1 * 128 + r.1, by have := lt_points t; omega⟩ 0) := by
  obtain ⟨-, ⟨h0, h1⟩, -⟩ := index_rows t
  unfold iblk
  blk_simp
  congr 1
  blk_ext [h0, h1]

theorem block_maskCols (t : Fin cfg0.N) (j : Fin 1024) : (iblk m d 3 t : S1x1x1024.Idx → EReal) (ix3 0 0 j)
    = (V m d main_v7 : S4x1x1024.Idx → EReal) (ix3 ⟨t.1 / 8, by have := lt_points t; omega⟩ 0 j) := by
  obtain ⟨-, ⟨h0, h1, h2⟩, -⟩ := index_cols t
  unfold iblk
  blk_simp
  congr 1
  blk_ext [h0, h1, h2]

theorem emb_out (t : Fin cfg0.N) (r : Fin 128) (k : Fin 48) : ((win0_4.blk t).view.emb (ix2 r k) : S4096x48.Idx)
    = ix2 ⟨t.1 * 128 + r.1, by have := lt_points t; omega⟩ k := by
  obtain ⟨-, -, h0, h1⟩ := index_rows t
  blk_ext [h0, h1]

/-- The ranks of the block's row `r`. -/
theorem ranks_block (t : Fin cfg0.N) (r : Fin 128) :
    rowOf (k0_pay2 (F := Ideal) (iblk m d 1 t) (iblk m d 0 t) (iblk m d 2 t) (iblk m d 3 t)) r
      = ranks (argX m d) (argM m d) ⟨(t.1 * 128 + r.1) / 1024, by have := lt_points t; omega⟩ ⟨(t.1 * 128 + r.1) % 1024, by omega⟩ := by
  have hb : (⟨t.1 / 8, by have := lt_points t; omega⟩ : Fin 4) = ⟨(t.1 * 128 + r.1) / 1024, by have := lt_points t; omega⟩ :=
    Fin.ext (by show t.1 / 8 = (t.1 * 128 + r.1) / 1024; omega)
  refine (rowOf_ranks _ _ _ _ r).trans ?_
  unfold ranks second
  congr 1
  · funext c
    exact (block_rows m d t r c).trans (rows_at m d _ c)
  · exact (block_maskRows m d t r).trans (maskRows_at m d _)
  · funext j c
    exact (block_cols m d t c j).trans ((cols_at m d _ c j).trans (by rw [hb]))
  · funext j
    exact (block_maskCols m d t j).trans ((maskCols_at m d _ j).trans (by rw [hb]))

/-- The result array. -/
theorem kernel_nearest : (Cert.NeighboursIdeal.Gen.dats m 0 d).arrAt 4 cfg0.N = nearest (argX m d) (argM m d) := by
  refine (Cert.NeighboursIdeal.Gen.dats m 0 d).arrAt_eq_of_covers 4 _ (by decide +kernel) fun t hf y => ?_
  obtain ⟨r, k, rfl⟩ : ∃ (r : Fin 128) (k : Fin 48), y = ix2 r k := ⟨y 0, y 1, by funext a; fin_cases a <;> rfl⟩
  blk_simp
  rw [emb_out]
  show out0_4 (grid0.coords t) (iblk m d 0 t) (iblk m d 1 t) (iblk m d 2 t) (iblk m d 3 t) (ix2 r k) = _
  have hb : t.1 / 8 = (t.1 * 128 + r.1) / 1024 := by omega
  rw [out_at, ranks_block, (index_cols t).2.2, hb]
  rfl

end Cert.Proof

end
-- ==== Proof.RefNearest.lean ====
/-
  The reference's row numbers: the first 48 entries of the stable order of the ranks.
-/
module

public import proofs.«01_k».proof.Proof.KernelNearest
public import proofs.«01_k».proof.Proof.Gen.NeighboursReferenceIdeal.Run
public import Idealize.ShloMosaic.Lib.Pointwise

@[expose] public section

noncomputable section

namespace Cert.Proof

open Idealize.ShloMosaic Idealize.ShloMosaic.TcCoe Cert.NeighboursReferenceIdeal Cert.NeighboursReferenceIdeal.Gen

/-- The reference's 0/1 products of masks. -/
def refMask (M : FVec Ideal S4x1024 .f32) : FVec Ideal S4x1024x1024 .f32 :=
  mulf (broadcastInDim S4x1024x1024 ![0, 1, 2] bcast_S4x1x1024_S4x1024x1024_0_1_2 (broadcastInDim S4x1x1024 ![0, 2] bcast_S4x1024_S4x1x1024_0_2 M))
    (broadcastInDim S4x1024x1024 ![0, 1, 2] bcast_S4x1024x1_S4x1024x1024_0_1_2 (broadcastInDim S4x1024x1 ![0, 1] bcast_S4x1024_S4x1024x1_0_1 M))

/-- The reference's second atoms. -/
def refPoints (X : FVec Ideal S4x1024x4x3 .f32) : FVec Ideal S4x1024x3 .f32 :=
  shapeCast _ (extractStridedSlice S4x1024x1x3 ![0, 0, 1, 0] X slices_S4x1024x4x3_S4x1024x1x3_0_0_1_0) shapeCasts_S4x1024x1x3_S4x1024x3

/-- The reference's differences of second atoms. -/
def refDiff (P : FVec Ideal S4x1024x3 .f32) : FVec Ideal S4x1024x1024x3 .f32 :=
  subf (broadcastInDim S4x1024x1024x3 ![0, 1, 2, 3] bcast_S4x1x1024x3_S4x1024x1024x3_0_1_2_3 (broadcastInDim S4x1x1024x3 ![0, 2, 3] bcast_S4x1024x3_S4x1x1024x3_0_2_3 P))
    (broadcastInDim S4x1024x1024x3 ![0, 1, 2, 3] bcast_S4x1024x1x3_S4x1024x1024x3_0_1_2_3 (broadcastInDim S4x1024x1x3 ![0, 1, 3] bcast_S4x1024x3_S4x1024x1x3_0_1_3 P))

/-- The reference's masked distances. -/
def refMasked (D : FVec Ideal S4x1024x1024x3 .f32) (W : FVec Ideal S4x1024x1024 .f32) : FVec Ideal S4x1024x1024 .f32 :=
  mulf W (Host.sqrt (addf (Host.reduceAdd (mulf D D) (constant S_ .f32 0x00000000#32) reducesTo_S4x1024x1024x3_S4x1024x1024_d3 h_S_)
    (broadcastInDim S4x1024x1024 ![] bcast_S_S4x1024x1024 (constant S_ .f32 0x358637BD#32))))

/-- The reference's ranks. -/
def refRanks (G W : FVec Ideal S4x1024x1024 .f32) : FVec Ideal S4x1024x1024 .f32 :=
  addf G (mulf (subf (broadcastInDim S4x1024x1024 ![] bcast_S_S4x1024x1024 (constant S_ .f32 0x3F800000#32)) W)
    (broadcastInDim S4x1024x1024 ![0, 1, 2] bcast_S4x1024x1_S4x1024x1024_0_1_2 (broadcastInDim S4x1024x1 ![0, 1] bcast_S4x1024_S4x1024x1_0_1
      (Host.reduce FloatOps.maximumf G (constant S_ .f32 0xFF800000#32) reducesTo_S4x1024x1024_S4x1024_d2 h_S_))))

/-- The reference's row numbers. -/
def refRows (T : FVec Ideal S4x1024x1024 .f32) : IVec S4096x48 32 :=
  shapeCast _ (addi (Host.topK S4x1024x48 2 (FloatOps.cmpfTotal .gt) (Host.negf T) sliceFits_S4x1024x1024_S4x1024x48).2
    (broadcastInDim S4x1024x48 ![0, 1, 2] bcast_S4x1x1_S4x1024x48_0_1_2 (muli (broadcastInDim S4x1x1 ![] bcast_S_S4x1x1 (constantI S_ 32 1024#32))
      (broadcastInDim S4x1x1 ![0] bcast_S4_S4x1x1_0 (iotaInDim S4 32 0))))) shapeCasts_S4x1024x48_S4096x48

theorem ref_rows (m : (ℓ : Loc nD τ sig) → Buf (Elt Ideal) ℓ) (c : Dev nD) :
    Value.res_main_v32 m c = refRows (refRanks (refMasked (refDiff (refPoints (m ((c.tc : Thread nD τ).loc main_arg0)))) (refMask (m ((c.tc : Thread nD τ).loc main_arg1))))
      (refMask (m ((c.tc : Thread nD τ).loc main_arg1)))) := by
  unfold Value.res_main_v32
  rfl

theorem refMask_at (M : FVec Ideal S4x1024 .f32) (b : Fin 4) (i j : Fin 1024) : refMask M (ix3 b i j) = M (ix2 b j) * M (ix2 b i) := by
  pointwise [refMask]

theorem refPoints_at (X : FVec Ideal S4x1024x4x3 .f32) (b : Fin 4) (i : Fin 1024) (c : Fin 3) : refPoints X (ix3 b i c) = X (ix4 b i 1 c) := by
  pointwise [refPoints]

theorem refDiff_at (P : FVec Ideal S4x1024x3 .f32) (b : Fin 4) (i j : Fin 1024) (c : Fin 3) :
    refDiff P (ix4 b i j c) = P (ix3 b j c) - P (ix3 b i c) := by
  pointwise [refDiff]

theorem refMasked_at (D : FVec Ideal S4x1024x1024x3 .f32) (W : FVec Ideal S4x1024x1024 .f32) (b : Fin 4) (i j : Fin 1024) :
    refMasked D W (ix3 b i j) = W (ix3 b i j) * Ideal.sqrt (D (ix4 b i j 0) * D (ix4 b i j 0) + D (ix4 b i j 1) * D (ix4 b i j 1)
      + D (ix4 b i j 2) * D (ix4 b i j 2) + Ideal.ofBits .f32 0x358637BD#32) := by
  pointwise [refMasked]
  rw [Fin.sum_univ_three]

theorem refRanks_at (G W : FVec Ideal S4x1024x1024 .f32) (b : Fin 4) (i j : Fin 1024) :
    refRanks G W (ix3 b i j) = G (ix3 b i j) + (1 - W (ix3 b i j)) * (Finset.univ : Finset (Fin 1024)).fold max (Ideal.ofBits .f32 0xFF800000#32) (fun j => G (ix3 b i j)) := by
  pointwise [refRanks]

theorem refRows_at (T : FVec Ideal S4x1024x1024 .f32) (i : Fin 4096) (k : Fin 48) :
    refRows T (ix2 i k) = IntOp.addi ((Host.topK S4x1024x48 2 (FloatOps.cmpfTotal .gt) (Host.negf T) sliceFits_S4x1024x1024_S4x1024x48).2
        (ix3 ⟨i.1 / 1024, by omega⟩ ⟨i.1 % 1024, by omega⟩ k)) (IntOp.muli 1024#32 (BitVec.ofNat 32 (i.1 / 1024))) := by
  pointwise [refRows]

/-- The first 48 columns. -/
theorem slice_at (y : S4x1024x1024.Idx → BitVec 32) (b : Fin 4) (i : Fin 1024) (k : Fin 48) :
    extractStridedSlice S4x1024x48 (fun _ => 0) y sliceFits_S4x1024x1024_S4x1024x48 (ix3 b i k) = y (ix3 b i (k.castLE (by decide))) := by
  unfold extractStridedSlice
  congr 1
  funext x
  fin_cases x <;> exact Fin.ext (Nat.zero_add _)

theorem along_row (b : Fin 4) (i k a : Fin 1024) : (ix3 b i k : S4x1024x1024.Idx).along 2 a = ix3 b i a := by
  funext x
  fin_cases x <;> rfl

/-- The second array of a sort of rows. -/
theorem sort2_at (cmp : EReal × BitVec 32 → EReal × BitVec 32 → BitVec 1) (x : S4x1024x1024.Idx → EReal) (y : S4x1024x1024.Idx → BitVec 32)
    (b : Fin 4) (i k : Fin 1024) : (Host.sort2 S4x1024x1024 2 cmp x y).2 (ix3 b i k)
      = y (ix3 b i (sortedFrom (fun a a' : Fin 1024 => cmp (x (ix3 b i a), y (ix3 b i a)) (x (ix3 b i a'), y (ix3 b i a')) == 1#1) k)) := by
  unfold Host.sort2
  simp only [dif_pos (show 2 < S4x1024x1024.rank from by decide)]
  show y ((ix3 b i k : S4x1024x1024.Idx).along 2 (sortedFrom (n := 1024) (fun a a' => cmp (x ((ix3 b i k : S4x1024x1024.Idx).along 2 a), y ((ix3 b i k : S4x1024x1024.Idx).along 2 a))
    (x ((ix3 b i k : S4x1024x1024.Idx).along 2 a'), y ((ix3 b i k : S4x1024x1024.Idx).along 2 a')) == 1#1) k)) = _
  simp only [along_row]

/-- The positions the reference takes: those of the stable order of the row. -/
theorem topK_at (T : FVec Ideal S4x1024x1024 .f32) (b : Fin 4) (i : Fin 1024) (k : Fin 48) :
    (Host.topK S4x1024x48 2 (FloatOps.cmpfTotal .gt) (Host.negf T) sliceFits_S4x1024x1024_S4x1024x48).2 (ix3 b i k)
      = BitVec.ofNat 32 (sortedFrom (fun a a' : Fin 1024 => decide (T (ix3 b i a) < T (ix3 b i a'))) (k.castLE (by decide))).1 := by
  have hcmp : (fun a a' : Fin 1024 => decide (T (ix3 b i a) < T (ix3 b i a')))
      = fun a a' : Fin 1024 => FloatOps.cmpfTotal (F := Ideal) (φ := .f32) .gt (Host.negf T (ix3 b i a)) (Host.negf T (ix3 b i a')) == 1#1 := by
    funext a a'
    show _ = (BitVec.ofBool (decide (-(T (ix3 b i a') : EReal) < -(T (ix3 b i a) : EReal))) == 1#1)
    by_cases h : (T (ix3 b i a) : EReal) < T (ix3 b i a')
    · simp [h, EReal.neg_lt_neg_iff]
    · simp [h, EReal.neg_lt_neg_iff]
  rw [hcmp]
  unfold Host.topK
  dsimp only
  refine (slice_at _ b i k).trans ((sort2_at _ _ _ b i _).trans ?_)
  rw [dif_pos (show 2 < S4x1024x1024.rank from by decide)]
  generalize sortedFrom _ _ = s
  rfl

/-- The reference's ranks are the kernel's. -/
theorem ref_ranks (X : FVec Ideal S4x1024x4x3 .f32) (M : FVec Ideal S4x1024 .f32) (hX : ∀ i, IsReal (X i)) (b : Fin 4) (i : Fin 1024) :
    (fun j : Fin 1024 => (refRanks (refMasked (refDiff (refPoints X)) (refMask M)) (refMask M) (ix3 b i j) : EReal)) = ranks X M b i := by
  have hG : ∀ j : Fin 1024, (refMasked (refDiff (refPoints X)) (refMask M) (ix3 b i j) : EReal)
      = masked (second X b i) (M (ix2 b i)) (second X b) (fun j => M (ix2 b j)) j := by
    intro j
    rw [refMasked_at]
    simp only [refDiff_at, refPoints_at, refMask_at]
    unfold masked
    rw [gap_comm (a := second X b i) (b := second X b j) (fun c => hX _) (fun c => hX _), mul_comm (M (ix2 b i)) (M (ix2 b j))]
    rfl
  funext j
  rw [refRanks_at]
  simp only [hG, refMask_at]
  unfold ranks near
  rw [mul_comm (M (ix2 b i)) (M (ix2 b j))]

/-- A count below 1024, as a word. -/
theorem word_of_count (n : ℕ) (hn : n < 1024) : Ideal.fptosi 32 (((n : ℝ)) : EReal) = BitVec.ofNat 32 n := by
  simp only [Ideal.fptosi, Ideal.toIntClamped_coe]
  rw [if_pos (Nat.cast_nonneg n), Int.floor_natCast, min_eq_right (by omega), max_eq_right (by omega)]
  exact BitVec.ofInt_natCast 32 n

/-- The reference's row numbers are the kernel's. -/
theorem ref_nearest (X : FVec Ideal S4x1024x4x3 .f32) (M : FVec Ideal S4x1024 .f32) (hX : ∀ i, IsReal (X i)) (hM : ∀ i, IsReal (M i)) :
    refRows (refRanks (refMasked (refDiff (refPoints X)) (refMask M)) (refMask M)) = nearest X M := by
  funext y
  obtain ⟨i, k, rfl⟩ : ∃ (i : Fin 4096) (k : Fin 48), y = ix2 i k := ⟨y 0, y 1, eq_ix2 _⟩
  rw [refRows_at, topK_at]
  have hr := ref_ranks X M hX ⟨i.1 / 1024, by omega⟩ ⟨i.1 % 1024, by omega⟩
  have hs : (fun a a' : Fin 1024 => decide (refRanks (refMasked (refDiff (refPoints X)) (refMask M)) (refMask M) (ix3 ⟨i.1 / 1024, by omega⟩ ⟨i.1 % 1024, by omega⟩ a)
        < refRanks (refMasked (refDiff (refPoints X)) (refMask M)) (refMask M) (ix3 ⟨i.1 / 1024, by omega⟩ ⟨i.1 % 1024, by omega⟩ a')))
      = fun a a' => decide (ranks X M ⟨i.1 / 1024, by omega⟩ ⟨i.1 % 1024, by omega⟩ a < ranks X M ⟨i.1 / 1024, by omega⟩ ⟨i.1 % 1024, by omega⟩ a') := by
    rw [← hr]
  have hv : ∀ j, ranks X M ⟨i.1 / 1024, by omega⟩ ⟨i.1 % 1024, by omega⟩ j < ⊤ :=
    near_lt_top (fun c => hX _) (hM _) (fun j c => hX _) (fun j => hM _)
  rw [hs, ← word_of_count _ (Fin.is_lt _), ← pick_rowAt big le_big _ hv (by decide) k]
  show _ = IntOp.addi _ (IntOp.muli _ _)
  unfold IntOp.muli
  rw [BitVec.mul_comm]
  rfl

end Cert.Proof

end
-- ==== Proof.AlgebraicNearest.lean ====
/-
  The neighbours' call and its reference end with the same row numbers.
-/
module

public import proofs.«01_k».proof.Proof.Finite
public import proofs.«01_k».proof.Proof.RefNearest

@[expose] public section

noncomputable section

namespace Cert.Proof

open Idealize.ShloMosaic Idealize.ShloMosaic.TcCoe Idealize.SL.Sem

/-- The value claim of the neighbours' call. -/
theorem algebraic_neighbours : Cert.algebraic_NeighboursIdeal_NeighboursReferenceIdeal_pre_finite := by
  intro m g m' g' hpre hargs
  have hr := fun d => finites _ _ (hpre d)
  refine ⟨fun c => nearest (argX m c) (argM m c), ?_, ?_⟩
  · refine (θ_run Cert.NeighboursIdeal.defs _ _).mono (fun _ h c => ⟨(h c).1.trans (kernel_nearest m c), (h c).2⟩)
      (Cert.NeighboursIdeal.Value.run_blocks (F := Ideal) m g)
  · refine (θ_run Cert.NeighboursReferenceIdeal.defs _ _).mono (fun _ h c => ⟨(h c).1.trans ?_, (h c).2⟩)
      (Cert.NeighboursReferenceIdeal.Value.run (F := Ideal) m' g')
    obtain ⟨a0, a1⟩ := hargs c
    rw [ref_rows, a0, a1]
    exact ref_nearest _ _ (hr c).1 (hr c).2

end Cert.Proof

end
-- ==== Proof.lean ====
/-
  The certificate. Of the kernel from the neighbours' row numbers: its frames, over 32-bit words and over the reals, its
  reference's frames, that the idealization rewrote nothing, and that over the reals it ends with the reference's edge
  features. Of the neighbours' call: the same frames, that the idealization names one constant, and that over the reals
  it ends with the reference's row numbers.
-/
module

public import proofs.«01_k».proof.Defs
public import proofs.«01_k».proof.Proof.Same
public import proofs.«01_k».proof.Proof.RefFrame
public import proofs.«01_k».proof.Proof.Algebraic
public import proofs.«01_k».proof.Proof.Nearest
public import proofs.«01_k».proof.Proof.AlgebraicNearest

@[expose] public section

noncomputable section

namespace Cert.Proof

theorem claim : Cert.Claim := ⟨Cert.Kernel.Gen.facts, Cert.KernelIdeal.Gen.facts, Cert.ReferenceIdeal.Gen.facts,
  Cert.Neighbours.Gen.facts, Cert.NeighboursIdeal.Gen.facts, Cert.NeighboursReferenceIdeal.Gen.facts,
  Cert.Pre_pre.Gen.facts, Cert.Pre_finite.Gen.facts,
  frame_kernel, frame_ideal, frame_reference, frame_reference_pre,
  frame_neighbours, frame_neighboursIdeal, frame_neighboursIdeal_finite, frame_neighboursReference, frame_neighboursReference_finite,
  trivial, algebraic, named_taken, algebraic_neighbours⟩

end Cert.Proof

end
